-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S4x256x1024 : Shape := ⟨3, ![4, 256, 1024]⟩
abbrev S14 : Shape := ⟨1, ![14]⟩
abbrev S_ : Shape := ⟨0, ![]⟩
abbrev S4 : Shape := ⟨1, ![4]⟩
abbrev S256x4096 : Shape := ⟨2, ![256, 4096]⟩
abbrev S256x1024 : Shape := ⟨2, ![256, 1024]⟩
abbrev S1x256x1024 : Shape := ⟨3, ![1, 256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S512x4096, .i8⟩
  | .hbm, ⟨1, _⟩ => ⟨S4096x1024, .i8⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .i8⟩
  | .local _ .vmem, ⟨1, _⟩ => ⟨S512x4096, .i8⟩
  | .local _ .vmem, ⟨2, _⟩ => ⟨S512x4096, .i8⟩
  | .local _ .vmem, ⟨3, _⟩ => ⟨S512x4096, .i8⟩
  | .local _ .vmem, ⟨4, _⟩ => ⟨S512x4096, .i8⟩
  | .local _ .vmem, ⟨5, _⟩ => ⟨S512x4096, .i8⟩
  | .local _ .vmem, ⟨6, _⟩ => ⟨S512x4096, .i8⟩
  | .local _ .vmem, ⟨7, _⟩ => ⟨S512x4096, .i8⟩
  | .local _ .vmem, ⟨8, _⟩ => ⟨S4096x1024, .i8⟩
  | .local _ .vmem, ⟨9, _⟩ => ⟨S4x256x1024, .f32⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_6 : BitVec 32 := 1#32
  let v14 : BitVec 32 := Scalar.muli v10 c1_i32_6
  let v15 : BitVec 32 := Scalar.addi c0_i32 v14
  v15.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_8 : BitVec 32 := 1#32
  let v16 : BitVec 32 := Scalar.muli v7 c1_i32_8
  let v17 : BitVec 32 := Scalar.addi c0_i32_9 v16
  v17.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_11 : BitVec 32 := 1#32
  let v18 : BitVec 32 := Scalar.muli v12 c1_i32_11
  let v19 : BitVec 32 := Scalar.addi c0_i32_12 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_16 : BitVec 32 := 1#32
  let v20 : BitVec 32 := Scalar.muli v7 c1_i32_16
  let v21 : BitVec 32 := Scalar.addi c0_i32_17 v20
  v21.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_24 : BitVec 32 := 1#32
  let v28 : BitVec 32 := Scalar.muli v7 c1_i32_24
  let v29 : BitVec 32 := Scalar.addi c0_i32_25 v28
  v29.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_30 : BitVec 32 := 1#32
  let v36 : BitVec 32 := Scalar.muli v10 c1_i32_30
  let v37 : BitVec 32 := Scalar.addi c0_i32_31 v36
  v37.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_38 : BitVec 32 := 1#32
  let v44 : BitVec 32 := Scalar.muli v10 c1_i32_38
  let v45 : BitVec 32 := Scalar.addi c0_i32_39 v44
  v45.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_46 : BitVec 32 := 1#32
  let v52 : BitVec 32 := Scalar.muli v12 c1_i32_46
  let v53 : BitVec 32 := Scalar.addi c0_i32_47 v52
  v53.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_53 : BitVec 32 := 1#32
  let v60 : BitVec 32 := Scalar.muli v12 c1_i32_53
  let v61 : BitVec 32 := Scalar.addi c0_i32_54 v60
  v61.toNat
def k0_off1 (d0 : Dev nD) (c0_i32_68 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v83 : BitVec 32 := Scalar.muli v2 c512_i32
  let v84 : BitVec 32 := Scalar.addi v83 c0_i32_68
  let c0_i32_71 : BitVec 32 := 0#32
  ![v84.toNat, 0]
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_107 : BitVec 32 := 1#32
  let v128 : BitVec 32 := Scalar.muli v10 c1_i32_107
  let v129 : BitVec 32 := Scalar.addi c0_i32_108 v128
  v129.toNat
def k0_off2 (d0 : Dev nD) (c0_i32_120 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c512_i32_119 : BitVec 32 := 512#32
  let v146 : BitVec 32 := Scalar.muli v12 c512_i32_119
  let v147 : BitVec 32 := Scalar.addi v146 c0_i32_120
  let c0_i32_123 : BitVec 32 := 0#32
  ![v147.toNat, 0]
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_135 : BitVec 32 := 1#32
  let v159 : BitVec 32 := Scalar.muli v7 c1_i32_135
  let v160 : BitVec 32 := Scalar.addi c0_i32_136 v159
  v160.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_143 : BitVec 32 := 1#32
  let v167 : BitVec 32 := Scalar.muli v12 c1_i32_143
  let v168 : BitVec 32 := Scalar.addi c0_i32_144 v167
  v168.toNat
def k0_off3 (d0 : Dev nD) (c3_i32_86 : BitVec 32) (c0_i32_156 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v107 : BitVec 32 := Scalar.addi v3 c3_i32_86
  let c4_i32_87 : BitVec 32 := 4#32
  let v108 : BitVec 32 := Scalar.remsi v107 c4_i32_87
  let v109 : BitVec 32 := Scalar.addi v4 v108
  let c512_i32_155 : BitVec 32 := 512#32
  let v185 : BitVec 32 := Scalar.muli v109 c512_i32_155
  let v186 : BitVec 32 := Scalar.addi v185 c0_i32_156
  let c0_i32_159 : BitVec 32 := 0#32
  ![v186.toNat, 0]
def k0_dev13 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_171 : BitVec 32 := 1#32
  let v198 : BitVec 32 := Scalar.muli v10 c1_i32_171
  let v199 : BitVec 32 := Scalar.addi c0_i32_172 v198
  v199.toNat
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_205 : BitVec 32 := 1#32
  let v234 : BitVec 32 := Scalar.muli v7 c1_i32_205
  let v235 : BitVec 32 := Scalar.addi c0_i32_206 v234
  v235.toNat
def k0_dev15 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_212 : BitVec 32 := 1#32
  let v242 : BitVec 32 := Scalar.muli v12 c1_i32_212
  let v243 : BitVec 32 := Scalar.addi c0_i32_213 v242
  v243.toNat
def k0_dev16 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_300 : BitVec 32 := 1#32
  let v334 : BitVec 32 := Scalar.muli v7 c1_i32_300
  let v335 : BitVec 32 := Scalar.addi c0_i32_301 v334
  v335.toNat
def k0_off4 (d0 : Dev nD) (c3_i32_86 : BitVec 32) (c0_i32_319 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v107 : BitVec 32 := Scalar.addi v3 c3_i32_86
  let c4_i32_87 : BitVec 32 := 4#32
  let v108 : BitVec 32 := Scalar.remsi v107 c4_i32_87
  let v109 : BitVec 32 := Scalar.addi v4 v108
  let c4_i32_92 : BitVec 32 := 4#32
  let v116 : BitVec 32 := Scalar.addi v109 c4_i32_92
  let c8_i32_93 : BitVec 32 := 8#32
  let v117 : BitVec 32 := Scalar.remsi v116 c8_i32_93
  let c512_i32_318 : BitVec 32 := 512#32
  let v357 : BitVec 32 := Scalar.muli v117 c512_i32_318
  let v358 : BitVec 32 := Scalar.addi v357 c0_i32_319
  let c0_i32_322 : BitVec 32 := 0#32
  ![v358.toNat, 0]
def k0_dev17 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_361 : BitVec 32 := 1#32
  let v398 : BitVec 32 := Scalar.muli v12 c1_i32_361
  let v399 : BitVec 32 := Scalar.addi c0_i32_362 v398
  v399.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Mesh.lean ====
/-
# The mesh, the buffers and the fourteen transfers

The eight devices form two rings of four (`0..3` and `4..7`); device `c` of one ring is paired with device
`c ± 4` of the other. Every device holds 512 rows of `x`. Each block travels in two halves of 256 rows: to the
right neighbour, to the left neighbour and to the partner, and some arrived halves are sent on. The tables here
say, for each of the 14 transfers a device starts, which half goes where, and for each buffer whose rows it ends
up holding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.VecWindow

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The devices -/

/-- The device a transfer in direction `k` goes to: 0 to the right in the ring, 1 to the left, 2 to the partner in
    the other ring. -/
def nb : Fin 3 → Dev nD → Dev nD :=
  ![![1, 2, 3, 0, 5, 6, 7, 4], ![3, 0, 1, 2, 7, 4, 5, 6], ![4, 5, 6, 7, 0, 1, 2, 3]]

/-- The direction back. -/
def opp : Fin 3 → Fin 3 := ![1, 0, 2]

theorem nb_opp_nb (k : Fin 3) (c : Dev nD) : nb (opp k) (nb k c) = c := by revert k c; decide
theorem nb_nb_opp (k : Fin 3) (c : Dev nD) : nb k (nb (opp k) c) = c := by revert k c; decide

/-- Each direction permutes the devices. -/
def nbEquiv (k : Fin 3) : Dev nD ≃ Dev nD := ⟨nb k, nb (opp k), nb_opp_nb k, nb_nb_opp k⟩

/-! ## The transfers -/

/-- The direction of transfer `t`. -/
def dir : Fin 14 → Fin 3 := ![0, 0, 1, 1, 2, 2, 0, 0, 2, 2, 1, 1, 0, 2]
/-- The buffer its rows are read from (7 is the device's own copy of `x`). -/
def srcB : Fin 14 → Fin 8 := ![7, 7, 7, 7, 7, 7, 0, 0, 0, 0, 2, 2, 4, 3]
/-- The buffer of the receiving device they are written to. -/
def dstB : Fin 14 → Fin 8 := ![0, 0, 1, 1, 2, 2, 3, 3, 4, 4, 5, 5, 6, 6]
/-- The half it moves. -/
def hf : Fin 14 → Fin 2 := ![0, 1, 0, 1, 0, 1, 0, 1, 0, 1, 0, 1, 0, 1]

/-- The device transfer `t` of device `c` goes to. -/
def tgt (t : Fin 14) (c : Dev nD) : Dev nD := nb (dir t) c
/-- The device whose transfer `t` arrives on device `c`. -/
def frm (t : Fin 14) (c : Dev nD) : Dev nD := nb (opp (dir t)) c

theorem frm_tgt (t : Fin 14) (c : Dev nD) : frm t (tgt t c) = c := nb_opp_nb _ _
theorem tgt_frm (t : Fin 14) (c : Dev nD) : tgt t (frm t c) = c := nb_nb_opp _ _

/-- The device whose rows of `x` buffer `b` of device `c` holds in the end. -/
def org : Fin 8 → Dev nD → Dev nD :=
  ![fun c => nb 1 c, fun c => nb 0 c, fun c => nb 2 c, fun c => nb 1 (nb 1 c), fun c => nb 1 (nb 2 c),
    fun c => nb 0 (nb 2 c), fun c => nb 1 (nb 1 (nb 2 c)), fun c => c]

/-- A transfer puts into its destination the rows that belong there. -/
theorem org_src (t : Fin 14) (c : Dev nD) : org (srcB t) c = org (dstB t) (tgt t c) := by revert t c; decide

/-- The eight buffers of a device hold the rows of the eight devices, each once. -/
theorem org_bijective (c : Dev nD) : Function.Bijective fun b => org b c := by
  rw [Fintype.bijective_iff_injective_and_card]
  exact ⟨by revert c; decide, rfl⟩

/-- The order the transfers are started in. -/
def sendOrder : List (Fin 14) := [0, 1, 2, 3, 4, 5, 10, 6, 8, 11, 7, 9, 12, 13]

/-! ## The device numbers the program computes -/

theorem dev1_eq (c : Dev nD) : (⟨k0_dev1 c, k0_dev1_lt c⟩ : Dev nD) = nb 1 c := by revert c; decide
theorem dev2_eq (c : Dev nD) : (⟨k0_dev2 c, k0_dev2_lt c⟩ : Dev nD) = nb 0 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = tgt 0 c := by revert c; decide
theorem dev5_eq (c : Dev nD) : (⟨k0_dev5 c, k0_dev5_lt c⟩ : Dev nD) = tgt 1 c := by revert c; decide
theorem dev6_eq (c : Dev nD) : (⟨k0_dev6 c, k0_dev6_lt c⟩ : Dev nD) = tgt 2 c := by revert c; decide
theorem dev7_eq (c : Dev nD) : (⟨k0_dev7 c, k0_dev7_lt c⟩ : Dev nD) = tgt 3 c := by revert c; decide
theorem dev8_eq (c : Dev nD) : (⟨k0_dev8 c, k0_dev8_lt c⟩ : Dev nD) = tgt 4 c := by revert c; decide
theorem dev9_eq (c : Dev nD) : (⟨k0_dev9 c, k0_dev9_lt c⟩ : Dev nD) = tgt 5 c := by revert c; decide
theorem dev10_eq (c : Dev nD) : (⟨k0_dev10 c, k0_dev10_lt c⟩ : Dev nD) = tgt 10 c := by revert c; decide
theorem dev11_eq (c : Dev nD) : (⟨k0_dev11 c, k0_dev11_lt c⟩ : Dev nD) = tgt 6 c := by revert c; decide
theorem dev12_eq (c : Dev nD) : (⟨k0_dev12 c, k0_dev12_lt c⟩ : Dev nD) = tgt 8 c := by revert c; decide
theorem dev13_eq (c : Dev nD) : (⟨k0_dev13 c, k0_dev13_lt c⟩ : Dev nD) = tgt 11 c := by revert c; decide
theorem dev14_eq (c : Dev nD) : (⟨k0_dev14 c, k0_dev14_lt c⟩ : Dev nD) = tgt 7 c := by revert c; decide
theorem dev15_eq (c : Dev nD) : (⟨k0_dev15 c, k0_dev15_lt c⟩ : Dev nD) = tgt 9 c := by revert c; decide
theorem dev16_eq (c : Dev nD) : (⟨k0_dev16 c, k0_dev16_lt c⟩ : Dev nD) = tgt 12 c := by revert c; decide
theorem dev17_eq (c : Dev nD) : (⟨k0_dev17 c, k0_dev17_lt c⟩ : Dev nD) = tgt 13 c := by revert c; decide

/-! ## The rows of the result -/

/-- The first row and column of half `h` of device `d`'s rows in the result. -/
def outOff (d : Dev nD) (h : Fin 2) : Fin 2 → ℕ := ![512 * d.val + 256 * h.val, 0]
theorem outOff_inb (d : Dev nD) (h : Fin 2) : ∀ a, outOff d h a + S256x1024.size a ≤ S4096x1024.size a := by
  revert d h; decide

theorem off1_eq (c : Dev nD) : k0_off1 c 0#32 = outOff (org 7 c) 0 ∧ k0_off1 c 256#32 = outOff (org 7 c) 1 := by revert c; decide
theorem off2_eq (c : Dev nD) : k0_off2 c 0#32 = outOff (org 2 c) 0 ∧ k0_off2 c 256#32 = outOff (org 2 c) 1 := by revert c; decide
theorem off3_eq (c : Dev nD) :
    (k0_off3 c 3#32 0#32 = outOff (org 0 c) 0 ∧ k0_off3 c 3#32 256#32 = outOff (org 0 c) 1)
    ∧ (k0_off3 c 1#32 0#32 = outOff (org 1 c) 0 ∧ k0_off3 c 1#32 256#32 = outOff (org 1 c) 1)
    ∧ (k0_off3 c 2#32 0#32 = outOff (org 3 c) 0 ∧ k0_off3 c 2#32 256#32 = outOff (org 3 c) 1) := by revert c; decide
theorem off4_eq (c : Dev nD) :
    (k0_off4 c 3#32 0#32 = outOff (org 4 c) 0 ∧ k0_off4 c 3#32 256#32 = outOff (org 4 c) 1)
    ∧ (k0_off4 c 1#32 0#32 = outOff (org 5 c) 0 ∧ k0_off4 c 1#32 256#32 = outOff (org 5 c) 1)
    ∧ (k0_off4 c 2#32 0#32 = outOff (org 6 c) 0 ∧ k0_off4 c 2#32 256#32 = outOff (org 6 c) 1) := by revert c; decide

/-! ## The memrefs -/

/-- The eight buffers of blocks of `x`. -/
def bufM : Fin 8 → Memref sig .tc .vmem S512x4096 .i8
  | 0 => Memref.whole cc0_scratch0 | 1 => Memref.whole cc0_scratch1 | 2 => Memref.whole cc0_scratch2
  | 3 => Memref.whole cc0_scratch3 | 4 => Memref.whole cc0_scratch4 | 5 => Memref.whole cc0_scratch5
  | 6 => Memref.whole cc0_scratch6 | 7 => Memref.whole cc0_scratch7

/-- The first row of half `h`. -/
def hOff (h : Fin 2) : Fin 2 → ℕ := ![256 * h.val, 0]
theorem hOff_inb (h : Fin 2) : ∀ a, hOff h a + S256x4096.size a ≤ S512x4096.size a := by revert h; decide

/-- Half `h` of a buffer of 512 rows. -/
def halfM (b : Memref sig .tc .vmem S512x4096 .i8) (h : Fin 2) : Memref sig .tc .vmem S256x4096 .i8 :=
  b.slice (Rect.unit (s := S512x4096) (hOff h) S256x4096.size (hOff_inb h)) (fun _ => rfl)

/-- What transfer `t` reads, and what it writes on the receiving device. -/
abbrev srcM (t : Fin 14) : Memref sig .tc .vmem S256x4096 .i8 := halfM (bufM (srcB t)) (hf t)
abbrev dstM (t : Fin 14) : Memref sig .tc .vmem S256x4096 .i8 := halfM (bufM (dstB t)) (hf t)

abbrev xA : Memref sig .tc .hbm S512x4096 .i8 := Memref.whole main_arg0
abbrev wA : Memref sig .tc .hbm S4096x1024 .i8 := Memref.whole main_arg1
abbrev oA : Memref sig .tc .hbm S4096x1024 .f32 := Memref.whole main_v1
abbrev wM : Memref sig .tc .vmem S4096x1024 .i8 := Memref.whole cc0_scratch8
abbrev tM : Memref sig .tc .vmem S4x256x1024 .f32 := Memref.whole cc0_scratch9
abbrev sxM : Memref sig .tc .smem S1 .f32 := Memref.whole cc0_stg0_0
abbrev swM : Memref sig .tc .smem S1 .f32 := Memref.whole cc0_stg1_0

/-- The rows of the result that half `h` of device `d`'s rows give. -/
def outM (d : Dev nD) (h : Fin 2) : Memref sig .tc .hbm S256x1024 .f32 :=
  oA.slice (Rect.unit (s := S4096x1024) (outOff d h) S256x1024.size (outOff_inb d h)) (fun _ => rfl)

theorem out_slice_eq {off : Fin 2 → ℕ} (inb : ∀ a, off a + S256x1024.size a ≤ S4096x1024.size a) {d : Dev nD} {h : Fin 2}
    (e : off = outOff d h) : oA.slice (Rect.unit (s := S4096x1024) off S256x1024.size inb) (fun _ => rfl) = outM d h := by
  subst e; rfl

/-- Slot `k` of the four result tiles, as a block of rank 3 and of rank 2. -/
def tOff (k : Fin 4) : Fin 3 → ℕ := ![k.val, 0, 0]
theorem tOff_inb (k : Fin 4) : ∀ a, tOff k a + S1x256x1024.size a ≤ S4x256x1024.size a := by revert k; decide
def tileR (k : Fin 4) : Rect S4x256x1024 := Rect.unit (s := S4x256x1024) (tOff k) S1x256x1024.size (tOff_inb k)
def tileS (k : Fin 4) : Memref sig .tc .vmem S1x256x1024 .f32 := tM.slice (tileR k) (fun _ => rfl)
def tileM (k : Fin 4) : Memref sig .tc .vmem S256x1024 .f32 := (tileS k).squeeze S256x1024 squeezes_S1x256x1024_S256x1024

/-! ## The semaphores -/

/-- The barrier semaphore, and the send and receive semaphores of the transfers. -/
abbrev barS : Sem sig := (SemArray.scalar (sig.barrier 0 rfl) : Sems sig S_).sem
def sendS (t : Fin 14) : DmaSem sig := ⟨2 + t.val, by have := t.isLt; show _ < 36; omega⟩
def recvS (t : Fin 14) : DmaSem sig := ⟨16 + t.val, by have := t.isLt; show _ < 36; omega⟩
abbrev xS : DmaSem sig := (⟨30, by decide⟩ : Fin 36)
abbrev wS : DmaSem sig := (⟨31, by decide⟩ : Fin 36)
def tileSem (k : Fin 4) : DmaSem sig := ⟨32 + k.val, by have := k.isLt; show _ < 36; omega⟩

abbrev barCell (c : Dev nD) : GSem nD τ sig := ((c : Thread nD τ), .reg barS)
abbrev sendCell (t : Fin 14) (c : Dev nD) : GSem nD τ sig := ((c : Thread nD τ), .dma (sendS t))
abbrev recvCell (t : Fin 14) (c : Dev nD) : GSem nD τ sig := ((c : Thread nD τ), .dma (recvS t))

/-- The cells other devices pay: the barrier, and per transfer the send (`false`) and the receive (`true`) semaphore. -/
abbrev csem : Option (Bool × Fin 14) → SemLoc sig
  | none => .reg barS
  | some (false, t) => .dma (sendS t)
  | some (true, t) => .dma (recvS t)
abbrev kcell (p : Dev nD × Option (Bool × Fin 14)) : GSem nD τ sig := ((p.1 : Thread nD τ), csem p.2)

/-- The semaphores of the local copies: the two copies in and the four tiles. -/
def lsem (i : Fin 6) : SemLoc sig := .dma ⟨30 + i.val, by have := i.isLt; show _ < 36; omega⟩
/-- The kernel's own semaphores: those of the transfers and those of the local copies. -/
abbrev osem : (Bool × Fin 14) ⊕ Fin 6 → SemLoc sig
  | .inl p => csem (some p)
  | .inr i => lsem i

theorem csem_injective : Function.Injective csem := by decide
theorem kcell_injective : Function.Injective kcell := by
  rintro ⟨c, i⟩ ⟨c', i'⟩ h
  obtain rfl : c = c' := congrArg (fun g : GSem nD τ sig => g.1.1) h
  obtain rfl : i = i' := csem_injective (congrArg (fun g : GSem nD τ sig => g.2) h)
  rfl

theorem ownSemFacts : Pipeline.OwnSemFacts (cfg0 : Pipeline.Cfg sig Λ₀).spec osem := by decide

end Cert.Gather

end
-- ==== Proof.Sched.lean ====
/-
# What is held, what is promised, and in what order

The assertions the proof is written in (a memref held at known or unknown contents), the schedule of the barrier,
send and receive cells, what each device owes and at which level, and the evidence that every wait owes only
cells of higher levels.
-/
module

public import proofs.«01_k».proof.Proof.Mesh

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The cells' rounds, duties named by a direction; beside the pipeline's copy and the local copies' counters. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## Contents -/

/-- The one index of a scale. -/
def i0 : S1.Idx := fun a => ⟨0, by revert a; decide⟩

/-- Device `d`'s rows of `x`, its columns of `w`, and the two scales it is given. -/
def xs (d : Dev nD) : S512x4096.Idx → Elt F .i8 := xA.view.read (Elt F) (m ((d : Thread nD τ).loc main_arg0))
def ws (d : Dev nD) : S4096x1024.Idx → Elt F .i8 := wA.view.read (Elt F) (m ((d : Thread nD τ).loc main_arg1))
def sx (d : Dev nD) : Elt F .f32 := (m ((d : Thread nD τ).loc main_arg2) : S1.Idx → Elt F .f32) i0
def sw (d : Dev nD) : Elt F .f32 := (m ((d : Thread nD τ).loc main_arg3) : S1.Idx → Elt F .f32) i0

/-- Half `h` of 512 rows. -/
def half {α : Type} (x : S512x4096.Idx → α) (h : Fin 2) : S256x4096.Idx → α :=
  fun y => x ((Rect.unit (s := S512x4096) (hOff h) S256x4096.size (hOff_inb h)).emb y)

/-- Half `h` of device `d`'s rows of `x`. -/
def xh (d : Dev nD) (h : Fin 2) : S256x4096.Idx → Elt F .i8 := half (xs m d) h

/-- The result rows from 256 rows of `x`, as the kernel computes them. -/
def grain (x : S256x4096.Idx → Elt F .i8) (w : S4096x1024.Idx → Elt F .i8) (a b : Elt F .f32) : S256x1024.Idx → Elt F .f32 :=
  maximumf (mulf (matmul dot_S256x4096_S4096x1024_S256x1024_1_0_0_1_n_n none (sitofp (F := F) .bf16 (x : Vec F S256x4096 .i8)) (k0_pay2 (F := F) w)
    (constant S256x1024 .f32 0x00000000#32)) (broadcast S256x1024 (k0_pay1 a b))) (broadcast S256x1024 (Scalar.ofBits .f32 0x00000000#32))

/-- The result rows device `c` computes from half `h` of device `d`'s rows. -/
def res (c d : Dev nD) (h : Fin 2) : S256x1024.Idx → Elt F .f32 := grain (xh m d h) (ws m c) (sx m c) (sw m c)

/-! ## Memrefs held -/

/-- Device `c` holds share `q` of a memref's elements, which read `g`. -/
def held (c : Dev nD) {sp : Space} {s : Shape} {e : EltTy} (v : Memref sig .tc sp s e) (q : PosShare TreeShare) (g : s.Idx → Elt F e) : sProp 𝕄 :=
  v.view.loc (c : Thread nD τ) ↦[v.view.set]{q} v.view.rep g

/-- Device `c` holds a memref's elements at unknown contents. -/
def heldAny (c : Dev nD) {sp : Space} {s : Shape} {e : EltTy} (v : Memref sig .tc sp s e) : sProp 𝕄 :=
  iprop(∃ f : Buf (Elt F) (v.view.loc (c : Thread nD τ)), v.view.loc (c : Thread nD τ) ↦[v.view.set]{fullShare} f)

section Held
variable (c : Dev nD) {sp : Space} {s : Shape} {e : EltTy} (v : Memref sig .tc sp s e)

instance held_storable (q g) : BI.Storable (upEmb : UEmb _ 𝕄) (held (F := F) c v q g) := by unfold held; infer_instance
instance heldAny_storable : BI.Storable (upEmb : UEmb _ 𝕄) (heldAny (F := F) c v) := by unfold heldAny; infer_instance

/-- Elements whose contents read `g` are held at `g`. -/
theorem held_of_read {q : PosShare TreeShare} {f : Buf (Elt F) (v.view.loc (c : Thread nD τ))} {g : s.Idx → Elt F e} (h : v.view.read (Elt F) f = g) :
    (v.view.loc (c : Thread nD τ) ↦[v.view.set]{q} f : sProp 𝕄) ⊢ held c v q g := by
  unfold held; exact pointsTo_rep_of_read (c : Thread nD τ) v f q g h

/-- What a memref holds at known contents it holds at some. -/
theorem held_any (g : s.Idx → Elt F e) : (held c v fullShare g : sProp 𝕄) ⊢ heldAny c v := by
  unfold held heldAny; iintro H; iexists v.view.rep g; iexact H

/-- A share is its two halves; -/
theorem held_split (q : PosShare TreeShare) (g : s.Idx → Elt F e) :
    (held c v q g : sProp 𝕄) ⊢ iprop(held c v q.left g ∗ held c v q.right g) := (pointsTo_share (PosShare.mem_left_op_right _)).1

/-- and back. -/
theorem held_join (q : PosShare TreeShare) (g : s.Idx → Elt F e) :
    iprop(held c v q.left g ∗ held c v q.right g) ⊢ (held c v q g : sProp 𝕄) := (pointsTo_share (PosShare.mem_left_op_right _)).2

end Held

/-! ## The schedule -/

/-- The credit of one transfer. -/
abbrev N : ℕ := (dstM 0).view.dmaCredit
theorem N_pos : 0 < N := View.dmaCredit_pos _ (by decide)

/-- What a device keeps of a half block after `n` transfers have borrowed from it: each borrows the right half of
    what is there. -/
def kept : ℕ → PosShare TreeShare
  | 0 => fullShare
  | n + 1 => (kept n).left
/-- How many transfers have borrowed from the same half block before transfer `t`. -/
def dep : Fin 14 → ℕ := ![0, 0, 1, 1, 2, 2, 0, 0, 1, 1, 0, 0, 0, 0]
/-- The share of its source transfer `t` borrows. -/
def lent (t : Fin 14) : PosShare TreeShare := (kept (dep t)).right

/-- The transfer a send or receive semaphore belongs to. -/
def tIdx (q : DmaSem sig) : Fin 14 := ⟨(q.val - 2) % 14, Nat.mod_lt _ (by decide)⟩
theorem tIdx_send (t : Fin 14) : tIdx (sendS t) = t := by revert t; decide
theorem tIdx_recv (t : Fin 14) : tIdx (recvS t) = t := by revert t; decide

/-- A signal in the direction back from `k` hands over the buffers that transfers in direction `k` write. -/
def barPay (c : Dev nD) (k : Fin 3) : sProp 𝕄 := bigSep (Finset.univ.filter fun t => dir t = k) fun t => heldAny (F := F) (nb k c) (dstM t)
/-- A finished transfer gives the borrowed share back to its sender -/
def sendPay (t : Fin 14) (c : Dev nD) : sProp 𝕄 := held c (srcM t) (lent t) (xh m (org (srcB t) c) (hf t))
/-- and the rows to its receiver. -/
def recvPay (t : Fin 14) (c : Dev nD) : sProp 𝕄 := held c (dstM t) fullShare (xh m (org (dstB t) c) (hf t))

/-- One round: a barrier cell has one duty of one unit per direction, a send or receive cell one duty of a
    transfer's credit. -/
def sched : Rounds.Schedule (GSem nD τ sig) (Fin 3) 𝕄 where
  duties g r := if r = 0 ∧ g.1.2 = .tc then
      match g.2 with
      | .reg s => if s = barS then Finset.univ else ∅
      | .dma q => if 2 ≤ q.val ∧ q.val < 30 then {0} else ∅
    else ∅
  unitless _ := False
  amount g _ _ := match g.2 with | .reg _ => 1 | .dma _ => N
  payload g _ d := match g.2 with
    | .reg _ => barPay g.1.1 d
    | .dma q => if q.val < 16 then sendPay m (tIdx q) g.1.1 else recvPay m (tIdx q) g.1.1
  amount_pos g _ _ _ := by
    cases g.2
    · exact Nat.one_pos
    · exact N_pos

instance sched_storable (g : GSem nD τ sig) (r : ℕ) (d : Fin 3) : BI.Storable (upEmb : UEmb _ 𝕄) ((sched m).payload g r d) := by
  obtain ⟨p, sm⟩ := g
  cases sm with
  | reg s => show BI.Storable upEmb (barPay p.1 d); unfold barPay; infer_instance
  | dma q =>
    show BI.Storable upEmb (if q.val < 16 then sendPay m (tIdx q) p.1 else recvPay m (tIdx q) p.1)
    unfold sendPay recvPay; split <;> infer_instance

section Sched
variable (t : Fin 14) (c : Dev nD)

theorem duties_bar : (sched (F := F) m).duties (barCell c) 0 = Finset.univ := rfl
theorem duties_send : (sched (F := F) m).duties (sendCell t c) 0 = {0} :=
  by dsimp only [sched]; rw [if_pos ⟨rfl, rfl⟩]; exact if_pos ⟨show 2 ≤ 2 + t.val by omega, show 2 + t.val < 30 by have := t.isLt; omega⟩
theorem duties_recv : (sched (F := F) m).duties (recvCell t c) 0 = {0} :=
  by dsimp only [sched]; rw [if_pos ⟨rfl, rfl⟩]; exact if_pos ⟨show 2 ≤ 16 + t.val by omega, show 16 + t.val < 30 by have := t.isLt; omega⟩
theorem duties_later (g : GSem nD τ sig) : ∀ r, 1 ≤ r → (sched (F := F) m).duties g r = ∅ :=
  fun r hr => if_neg fun h => by omega

theorem payload_send (d : Fin 3) : (sched (F := F) m).payload (sendCell t c) 0 d = sendPay m t c := by
  refine (if_pos (show 2 + t.val < 16 by have := t.isLt; omega)).trans ?_
  rw [tIdx_send]
theorem payload_recv (d : Fin 3) : (sched (F := F) m).payload (recvCell t c) 0 d = recvPay m t c := by
  refine (if_neg (show ¬ 16 + t.val < 16 by omega)).trans ?_
  rw [tIdx_recv]

theorem expect_bar : (sched (F := F) m).expect (barCell c) 0 = 3 := by
  unfold Schedule.expect Schedule.amountOf
  rw [duties_bar]; rfl
theorem expect_send : (sched (F := F) m).expect (sendCell t c) 0 = N := by
  unfold Schedule.expect Schedule.amountOf; rw [duties_send, Finset.sum_singleton]; rfl
theorem expect_recv : (sched (F := F) m).expect (recvCell t c) 0 = N := by
  unfold Schedule.expect Schedule.amountOf; rw [duties_recv, Finset.sum_singleton]; rfl

/-- What the barrier's three signals hand over: every buffer a transfer of this device writes. -/
theorem rest_bar : bigSep ((sched (F := F) m).duties (barCell c) 0 \ ∅) (fun d => (sched (F := F) m).payload (barCell c) 0 d)
    = bigSep Finset.univ fun k => barPay c k := by
  rw [Finset.sdiff_empty, duties_bar]; rfl
theorem rest_send : bigSep ((sched (F := F) m).duties (sendCell t c) 0 \ ∅) (fun d => (sched (F := F) m).payload (sendCell t c) 0 d) = sendPay m t c := by
  rw [Finset.sdiff_empty, duties_send, bigSep_singleton, payload_send]
theorem rest_recv : bigSep ((sched (F := F) m).duties (recvCell t c) 0 \ ∅) (fun d => (sched (F := F) m).payload (recvCell t c) 0 d) = recvPay m t c := by
  rw [Finset.sdiff_empty, duties_recv, bigSep_singleton, payload_recv]

end Sched

/-! ## What a device owes, and the levels -/

/-- What device `c` owes while the transfers of the list are still to be started. -/
def owed (c : Dev nD) : List (Fin 14) → CellTallies nD τ sig Unit
  | [] => 0
  | t :: l => owed c l + tallyAt (recvCell t (tgt t c)) () N

/-- The same with the units for the neighbours' barriers in the directions of a list. -/
def owedB (c : Dev nD) : List (Fin 3) → CellTallies nD τ sig Unit
  | [] => owed c sendOrder
  | k :: l => owedB c l + tallyAt (barCell (nb k c)) () 1

/-- At the launch: all three barrier units (paid left, right, partner) and all fourteen transfers. -/
def O₀ (c : Dev nD) : CellTallies nD τ sig Unit := owedB c [1, 0, 2]

/-- The levels: local copies and send cells at 0, barriers at 1, a receive cell the higher the later its rows set out. -/
def lvS : SemLoc sig → ℕ
  | .reg _ => 1
  | .dma q => if q.val < 16 then 0 else if q.val < 22 then 2 else if q.val < 28 then 3 else if q.val < 30 then 4 else 0
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- Only receive cells of listed transfers are owed; -/
theorem owed_pos {c : Dev nD} {g : GSem nD τ sig} {u : Unit} : ∀ {l : List (Fin 14)}, 0 < owed c l g u → ∃ t ∈ l, g = recvCell t (tgt t c)
  | [], h => absurd h (Nat.lt_irrefl 0)
  | t :: l, h => by
    unfold owed at h
    rw [Pi.add_apply, Finsupp.add_apply] at h
    rcases Nat.add_pos_iff_pos_or_pos.mp h with h | h
    · obtain ⟨t', ht', e⟩ := owed_pos h; exact ⟨t', List.mem_cons_of_mem _ ht', e⟩
    · exact ⟨t, List.mem_cons_self, tally_pos h⟩

/-- and barrier cells. -/
theorem owedB_pos {c : Dev nD} {g : GSem nD τ sig} {u : Unit} : ∀ {l : List (Fin 3)}, 0 < owedB c l g u →
    (∃ t ∈ sendOrder, g = recvCell t (tgt t c)) ∨ ∃ k ∈ l, g = barCell (nb k c)
  | [], h => .inl (owed_pos h)
  | k :: l, h => by
    unfold owedB at h
    rw [Pi.add_apply, Finsupp.add_apply] at h
    rcases Nat.add_pos_iff_pos_or_pos.mp h with h | h
    · rcases owedB_pos h with h | ⟨k', hk', e⟩
      · exact .inl h
      · exact .inr ⟨k', List.mem_cons_of_mem _ hk', e⟩
    · exact .inr ⟨k, List.mem_cons_self, tally_pos h⟩

/-- A device may wait at a cell whose level is below that of every transfer it still owes. -/
theorem mayWait (c : Dev nD) (sm : SemLoc sig) (l : List (Fin 14)) (h : ∀ t ∈ l, lvS sm < lvS (.dma (recvS t))) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨t, _, rfl⟩ := owed_pos hg; exact Finset.mem_singleton_self _)
    (fun p hp => by rw [Finset.mem_singleton.mp hp]; exact le_rfl)
    (fun g u hg => by obtain ⟨t, ht, rfl⟩ := owed_pos hg; exact h t ht)

/-- At the launch it may wait at the cells of level 0. -/
theorem mayWait_launch (c : Dev nD) (sm : SemLoc sig) (h : lvS sm = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases owedB_pos hg with ⟨t, _, rfl⟩ | ⟨k, _, rfl⟩ <;> exact Finset.mem_singleton_self _)
    (fun p hp => by rw [Finset.mem_singleton.mp hp]; exact h.le)
    (fun g u hg => by
      rcases owedB_pos hg with ⟨t, _, rfl⟩ | ⟨k, _, rfl⟩
      · show 0 < lvS (.dma (recvS t))
        clear hg; revert t; decide
      · exact Nat.one_pos)

end Cert.Gather

end
-- ==== Proof.Steps.lean ====
/-
# One lemma per kind of step

The kernel's effects come in a dozen kinds: a transfer started, a transfer awaited at the receiving or at the
sending end, a barrier signal, the barrier wait, a local copy started and awaited, and the loads and stores. Each
has one lemma here, stated for every transfer, buffer half and tile, in the form "what the step takes, then what it
leaves for the rest of the program".
-/
module

public import proofs.«01_k».proof.Proof.Sched

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
variable (K : Dev nD × Option (Bool × Fin 14) → ℕ)

abbrev 𝒱₀ : Variants := Variants.none

/-- The program `p` runs on device `c` to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The state of a transfer -/

/-- What device `c` needs beside source and destination to start transfer `t`. -/
def SendKit (c : Dev nD) (t : Fin 14) : sProp 𝕄 :=
  iprop(cellInv ER (sched m) (K (c, some (false, t))) (sendCell t c) ∗ cellInv ER (sched m) (K (tgt t c, some (true, t))) (recvCell t (tgt t c))
    ∗ atPos ER (sendCell t c) 0 ∅ 0 ∗ dutyTok ER (sendCell t c) 0 0 ∗ reached ER (sendCell t c) 0
    ∗ dutyTok ER (recvCell t (tgt t c)) 0 0 ∗ reached ER (recvCell t (tgt t c)) 0)
/-- The transfer is under way: its send cell is to be awaited. -/
def Flying (c : Dev nD) (t : Fin 14) : sProp 𝕄 :=
  iprop(cellInv ER (sched m) (K (c, some (false, t))) (sendCell t c) ∗ atPos ER (sendCell t c) 0 ∅ 0 ∗ cred (tallyAt (sendCell t c) () N))
/-- Transfer `t` to device `c` is to be awaited. -/
def RecvKit (c : Dev nD) (t : Fin 14) : sProp 𝕄 :=
  iprop(cellInv ER (sched m) (K (c, some (true, t))) (recvCell t c) ∗ atPos ER (recvCell t c) 0 ∅ 0 ∗ cred (tallyAt (recvCell t c) () N))
/-- A cell whose round is over. -/
def Done (c : Dev nD) (i : Option (Bool × Fin 14)) : sProp 𝕄 :=
  iprop(cellInv ER (sched m) (K (c, i)) (kcell (c, i)) ∗ atPos ER (kcell (c, i)) 1 ∅ 0)

/-- What device `c` owes while the listed transfers are to be started. -/
def Owes (c : Dev nD) (l : List (Fin 14)) : sProp 𝕄 := iprop(∃ W, owes (c : Thread nD τ) (owed c l) W)
/-- The same with the barrier units of the listed directions. -/
def OwesB (c : Dev nD) (l : List (Fin 3)) : sProp 𝕄 := iprop(∃ W, owes (c : Thread nD τ) (owedB c l) W)

/-- A finished cell's counter is zero, and its device's again. -/
theorem done_close (c : Dev nD) (i : Option (Bool × Fin 14)) : (Done m K c i : sProp 𝕄) ⊢ iprop(|={Set.univ}=> semVal (kcell (c, i)) 0) :=
  Rounds.cell_close ER (sched m) (Set.mem_univ (K (c, i))) (fun h => h) (R := 1) (duties_later m (kcell (c, i)))

/-- Every half block has the same credit. -/
theorem credit_half (b : Memref sig .tc .vmem S512x4096 .i8) (h : Fin 2) : (halfM b h).view.dmaCredit = N := rfl

/-! ## Transfers between devices -/

/-- A transfer is started: source share and destination go with it. -/
theorem step_send (c : Dev nD) (t : Fin 14) (l : List (Fin 14)) {c' : Dev nD} {src dst : Memref sig .tc .vmem S256x4096 .i8} {sS sR : DmaSem sig}
    (hc : c' = tgt t c) (hs : src = srcM t) (hd : dst = dstM t) (hS : sS = sendS t) (hR : sR = recvS t)
    {hsc : (dst : Memref sig (Dev.tc c' : Thread nD τ).2.kind .vmem S256x4096 .i8).view.ref.isScScratch = false}
    {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α} :
    iprop(SendKit m K c t ∗ held c (srcM t) (lent t) (xh m (org (srcB t) c) (hf t)) ∗ heldAny (tgt t c) (dstM t) ∗ Owes c (t :: l))
      ⊢ iprop((iprop(Flying m K c t ∗ Owes c l) -∗ WP c (k ⟨⟩) Q)
          -∗ WP c (.op (.enqueueDma src (.remote (Dev.tc c' : Thread nD τ) dst (.dma sS) hsc) (.dma sR) hsrc hdst hsem) k) Q) := by
  subst hc hs hd hS hR
  unfold SendKit Flying Owes heldAny held WP
  iintro ⟨⟨#HiS, #HiR, Hat, HtS, #HrS, HtR, #HrR⟩, Hsrc, ⟨%fd, Hdst⟩, ⟨%W, HO⟩⟩ Hk
  iapply (Rounds.wp_send_pointsTo 𝒱₀ ER (sched m) (c : Thread nD τ) none (κ₁ := K (c, some (false, t))) (κ₂ := K (tgt t c, some (true, t)))
    (r₁ := 0) (r₂ := 0) (d₁ := 0) (d₂ := 0) (fd := fd)
    (by rw [duties_send]; exact Finset.mem_singleton_self _) (by rw [duties_recv]; exact Finset.mem_singleton_self _)
    () () N rfl rfl rfl (owed c l) rfl (W := W)
    (by rw [payload_send]; exact BI.Entails.refl _)
    (by
      rw [payload_recv, View.read_rep]; unfold recvPay; rw [← org_src]
      exact held_of_read (tgt t c) (dstM t) (View.read_write_univ _ _))) $$ [HtS HtR Hsrc Hdst HO]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hat Hc]
  · isplitr; · iexact HiS
    isplitl [Hat]; · iexact Hat
    iexact Hc
  · iexists W; iexact HO

/-- An arriving transfer is awaited: its destination holds the rows. -/
theorem step_recv (c : Dev nD) (t : Fin 14) (l : List (Fin 14)) {s s' : Shape} {e e' : EltTy} {sp sp' : Space} {κ' : Kind} {sR : DmaSem sig} (hR : sR = recvS t)
    {srcw : Memref sig .tc sp s e} {dstw : Memref sig κ' sp' s' e'} {hsrc : srcw.view.WordExact} {hdst : dstw.view.WordExact}
    (hN : dstw.view.dmaCredit = N) (hl : ∀ t' ∈ l, lvS (.dma (recvS t)) < lvS (.dma (recvS t')))
    {α : Type} {Q : α → sProp 𝕄} {k : PUnit → Prog (TpuEff nD τ sig (Elt F) Λ₀ .tc) α} :
    iprop(RecvKit m K c t ∗ Owes c l ∗ levAts L lv)
      ⊢ iprop((iprop(Done m K c (some (true, t)) ∗ held c (dstM t) fullShare (xh m (org (dstB t) c) (hf t)) ∗ Owes c l) -∗ WP c (k ⟨⟩) Q)
          -∗ WP c (.op (.waitDma2 sR srcw dstw hsrc hdst) k) Q) := by
  subst hR
  unfold RecvKit Done Owes WP
  iintro ⟨⟨#Hi, Hat, Hc⟩, ⟨%W, HO⟩, #Hlev⟩ Hk
  iapply (Rounds.wp_wait_rest_token 𝒱₀ ER (sched m) (c : Thread nD τ) none (κ := K (c, some (true, t)))
      (wpE_waitDma2_eq 𝒱₀ (c : Thread nD τ) none Set.univ) (Set.mem_univ _) () (O := owed c l) (W := W) (R := 0) (m := 0) (T := ∅)
      (by rw [Nat.zero_add, expect_recv, hN])) $$ [Hc HO Hat]
  · isplitr; · iexact Hi
    isplitl [Hc]; · rw [hN]; iexact Hc
    isplitl [HO]; · iexact HO
    isplitr; · iapply (mayWait c _ l hl); iexact Hlev
    iexact Hat
  iintro ⟨HO, Hat, -, Hpay⟩
  ihave Hp := (show _ ⊢ held c (dstM t) fullShare (xh m (org (dstB t) c) (hf t)) from Entails.of_eq (rest_recv m t c)) $$ Hpay
  iapply Hk
  isplitl [Hat]
  · isplitr; · iexact Hi
    iexact Hat
  isplitl [Hp]; · iexact Hp
  iexists _; iexact HO

/-- A transfer's send cell is awaited: the lent share is back. -/
theorem step_sent (c : Dev nD) (t : Fin 14) (l : List (Fin 14)) {s s' : Shape} {e e' : EltTy} {sp sp' : Space} {κ' : Kind} {sS : DmaSem sig} (hS : sS = sendS t)
    {srcw : Memref sig .tc sp s e} {dstw : Memref sig κ' sp' s' e'} {hsrc : srcw.view.WordExact} {hdst : dstw.view.WordExact}
    (hN : dstw.view.dmaCredit = N) (hl : ∀ t' ∈ l, lvS (.dma (sendS t)) < lvS (.dma (recvS t')))
    {α : Type} {Q : α → sProp 𝕄} {k : PUnit → Prog (TpuEff nD τ sig (Elt F) Λ₀ .tc) α} :
    iprop(Flying m K c t ∗ Owes c l ∗ levAts L lv)
      ⊢ iprop((iprop(Done m K c (some (false, t)) ∗ held c (srcM t) (lent t) (xh m (org (srcB t) c) (hf t)) ∗ Owes c l) -∗ WP c (k ⟨⟩) Q)
          -∗ WP c (.op (.waitDma2 sS srcw dstw hsrc hdst) k) Q) := by
  subst hS
  unfold Flying Done Owes WP
  iintro ⟨⟨#Hi, Hat, Hc⟩, ⟨%W, HO⟩, #Hlev⟩ Hk
  iapply (Rounds.wp_wait_rest_token 𝒱₀ ER (sched m) (c : Thread nD τ) none (κ := K (c, some (false, t)))
      (wpE_waitDma2_eq 𝒱₀ (c : Thread nD τ) none Set.univ) (Set.mem_univ _) () (O := owed c l) (W := W) (R := 0) (m := 0) (T := ∅)
      (by rw [Nat.zero_add, expect_send, hN])) $$ [Hc HO Hat]
  · isplitr; · iexact Hi
    isplitl [Hc]; · rw [hN]; iexact Hc
    isplitl [HO]; · iexact HO
    isplitr; · iapply (mayWait c _ l hl); iexact Hlev
    iexact Hat
  iintro ⟨HO, Hat, -, Hpay⟩
  ihave Hp := (show _ ⊢ held c (srcM t) (lent t) (xh m (org (srcB t) c) (hf t)) from Entails.of_eq (rest_send m t c)) $$ Hpay
  iapply Hk
  isplitl [Hat]
  · isplitr; · iexact Hi
    iexact Hat
  isplitl [Hp]; · iexact Hp
  iexists _; iexact HO

/-! ## The barrier -/

/-- What device `c` needs to signal its neighbour in direction `k`: the duty named by the direction back. -/
def BarKit (c : Dev nD) (k : Fin 3) : sProp 𝕄 :=
  iprop(cellInv ER (sched m) (K (nb k c, none)) (barCell (nb k c)) ∗ dutyTok ER (barCell (nb k c)) 0 (opp k) ∗ reached ER (barCell (nb k c)) 0)

/-- The buffers of device `c` written by transfers in direction `k`. -/
def Landing (c : Dev nD) (k : Fin 3) : sProp 𝕄 := bigSep (Finset.univ.filter fun t => dir t = k) fun t => heldAny (F := F) c (dstM t)

/-- A neighbour is signalled and handed the buffers its transfers write. -/
theorem step_signal (c : Dev nD) (j : Fin 3) (l : List (Fin 3)) {c' : Dev nD} (hc : c' = nb j c)
    {α : Type} {Q : α → sProp 𝕄} {k : PUnit → Prog (TpuEff nD τ sig (Elt F) Λ₀ .tc) α} :
    iprop(BarKit m K c j ∗ Landing c (opp j) ∗ OwesB c (j :: l))
      ⊢ iprop((OwesB c l -∗ WP c (k ⟨⟩) Q) -∗ WP c (.op (.semSignal (Dev.tc c' : Thread nD τ) barS 1) k) Q) := by
  subst hc
  unfold BarKit OwesB Landing WP
  iintro ⟨⟨#Hi, Ht, #Hr⟩, Hl, ⟨%W, HO⟩⟩ Hk
  iapply (Rounds.wp_signal 𝒱₀ ER (sched m) (c : Thread nD τ) none (dst := (nb j c : Thread nD τ)) (κ := K (nb j c, none)) (r := 0)
      (d := opp j) (by rw [duties_bar]; exact Finset.mem_univ _) rfl () (owedB c l) rfl (W := W)) $$ [HO Ht Hl]
  · isplitr; · iexact Hi
    isplitl [HO]; · iexact HO
    isplitl [Ht]; · iexact Ht
    isplitl [Hl]
    · iapply (show (bigSep (Finset.univ.filter fun t => dir t = opp j) fun t => heldAny (F := F) c (dstM t) : sProp 𝕄)
          ⊢ (sched m).payload (barCell (nb j c)) 0 (opp j) from
        Entails.of_eq (by show _ = barPay (nb j c) (opp j); unfold barPay; rw [nb_opp_nb])) $$ Hl
    · iexact Hr
  iintro HO
  iapply Hk
  iexists W; iexact HO

/-- The barrier is awaited: the destinations of all transfers are the device's to write. -/
theorem step_barrier (c : Dev nD) {α : Type} {Q : α → sProp 𝕄} {k : PUnit → Prog (TpuEff nD τ sig (Elt F) Λ₀ .tc) α} :
    iprop((cellInv ER (sched m) (K (c, none)) (barCell c) ∗ atPos ER (barCell c) 0 ∅ 0 ∗ cred (tallyAt (barCell c) () 3)) ∗ OwesB c [] ∗ levAts L lv)
      ⊢ iprop((iprop(Done m K c none ∗ (bigSep Finset.univ fun k => barPay c k) ∗ Owes c sendOrder) -∗ WP c (k ⟨⟩) Q)
          -∗ WP c (.op (.semWait barS 3) k) Q) := by
  unfold Done Owes OwesB WP
  iintro ⟨⟨#Hi, Hat, Hc⟩, ⟨%W, HO⟩, #Hlev⟩ Hk
  iapply (Rounds.wp_wait_rest_token 𝒱₀ ER (sched m) (c : Thread nD τ) none (κ := K (c, none))
      (wpE_semWait_eq 𝒱₀ (c : Thread nD τ) none Set.univ) (Set.mem_univ _) () (O := owed c sendOrder) (W := W) (R := 0) (m := 0) (T := ∅)
      (by rw [Nat.zero_add, expect_bar])) $$ [Hc HO Hat]
  · isplitr; · iexact Hi
    isplitl [Hc]; · iexact Hc
    isplitl [HO]; · iexact HO
    isplitr; · iapply (mayWait c _ sendOrder (by decide)); iexact Hlev
    iexact Hat
  iintro ⟨HO, Hat, -, Hpay⟩
  ihave Hp := (Entails.of_eq (rest_bar m c)) $$ Hpay
  iapply Hk
  isplitl [Hat]
  · isplitr; · iexact Hi
    iexact Hat
  isplitl [Hp]; · iexact Hp
  iexists _; iexact HO

/-! ## Local copies -/

/-- A local copy under way: awaited at `q`, it leaves `D`. -/
abbrev Copying (c : Dev nD) (q : DmaSem sig) (n : ℕ) (D : sProp 𝕄) : sProp 𝕄 := Flight EC (c : Thread nD τ) (.dma q) () n D

/-- A local copy of a memref read as `g` is started. -/
theorem step_copy (c : Dev nD) {sp sp' : Space} {s : Shape} {e : EltTy} (src : Memref sig .tc sp s e) (dst : Memref sig .tc sp' s e) (q : DmaSem sig)
    (hs : 0 < s.numel) {hsrc : src.view.WordExact} {hdst : dst.view.WordExact} {hsem : DmaTarget.Typed (nD := nD) sp (.dma q) (.here (p := Proc.tc) dst)}
    (fs : Buf (Elt F) (src.view.loc (c : Thread nD τ))) (g : s.Idx → Elt F e) (hg : src.view.read (Elt F) fs = g) (D : sProp 𝕄)
    (hD : (src.view.loc (c : Thread nD τ) ↦[src.view.set]{fullShare} fs) ⊢ D)
    {α : Type} {Q : α → sProp 𝕄} {k : PUnit → Prog (TpuEff nD τ sig (Elt F) Λ₀ .tc) α} :
    iprop((src.view.loc (c : Thread nD τ) ↦[src.view.set]{fullShare} fs) ∗ heldAny c dst ∗ semVal ((c : Thread nD τ), .dma q) 0)
      ⊢ iprop((Copying c q dst.view.dmaCredit iprop(held c dst fullShare g ∗ D) -∗ WP c (k ⟨⟩) Q)
          -∗ WP c (.op (.enqueueDma src (.here (p := Proc.tc) dst) (.dma q) hsrc hdst hsem) k) Q) := by
  unfold heldAny WP
  iintro ⟨Hs, ⟨%fd, Hd⟩, Hv⟩ Hk
  iapply (wp_dmaLocal EC 𝒱₀ (c : Thread nD τ) none (Sd := dst.view.set) () dst.view.dmaCredit rfl (View.dmaCredit_pos _ hs) subset_rfl) $$ [Hs Hd Hv]
  · isplitl [Hs]; · iexact Hs
    isplitl [Hd]; · iexact Hd
    iexact Hv
  iintro Hf
  iapply Hk
  have hr : (dst.view.loc (c : Thread nD τ) ↦[dst.view.set]{fullShare} dst.view.write (Elt F) fd (ReadAs.same.apply (src.view.read (Elt F) fs)) Finset.univ : sProp 𝕄)
      ⊢ held c dst fullShare g := held_of_read c dst ((View.read_write_univ _ _).trans hg)
  iapply (Flight_mono EC (c : Thread nD τ) (BIClass.sep_mono hr hD)) $$ Hf

/-- A local copy is awaited. -/
theorem step_copied (c : Dev nD) (l : List (Fin 14)) {q q' : DmaSem sig} (hq : q' = q) {s s' : Shape} {e e' : EltTy} {sp sp' : Space} {κ' : Kind}
    {srcw : Memref sig .tc sp s e} {dstw : Memref sig κ' sp' s' e'} {hsrc : srcw.view.WordExact} {hdst : dstw.view.WordExact}
    {n : ℕ} (hN : dstw.view.dmaCredit = n) (hl : ∀ t' ∈ l, lvS (.dma q) < lvS (.dma (recvS t'))) {D : sProp 𝕄}
    {α : Type} {Q : α → sProp 𝕄} {k : PUnit → Prog (TpuEff nD τ sig (Elt F) Λ₀ .tc) α} :
    iprop(Copying c q n D ∗ Owes c l ∗ levAts L lv)
      ⊢ iprop((iprop(D ∗ semVal ((c : Thread nD τ), .dma q) 0 ∗ Owes c l) -∗ WP c (k ⟨⟩) Q)
          -∗ WP c (.op (.waitDma2 q' srcw dstw hsrc hdst) k) Q) := by
  subst hq
  unfold Owes WP
  iintro ⟨Hf, ⟨%W, HO⟩, #Hlev⟩ Hk
  iapply (wp_waitLocalO EC 𝒱₀ (c : Thread nD τ) none () hN (O := owed c l) (W := W)) $$ [Hf HO]
  · isplitl [Hf]; · iexact Hf
    isplitl [HO]; · iexact HO
    iapply (mayWait c _ l hl); iexact Hlev
  iintro ⟨HD, Hv, HO⟩
  iapply Hk
  isplitl [HD]; · iexact HD
  isplitl [Hv]; · iexact Hv
  iexists _; iexact HO

/-! ## Loads and stores -/

/-- Half a buffer is loaded. -/
theorem step_load (c : Dev nD) (b : Memref sig .tc .vmem S512x4096 .i8) (h : Fin 2) {q : PosShare TreeShare} {g : S256x4096.Idx → Elt F .i8}
    {off : Fin 2 → ℕ} {inb : ∀ a, off a + S256x4096.size a ≤ S512x4096.size a} (ho : off = hOff h)
    {hl : b.view.LoadsAt (Rect.unit (s := S512x4096) off S256x4096.size inb).toLoadRect}
    {α : Type} {Q : α → sProp 𝕄} {k : (S256x4096.Idx → Elt F .i8) → Prog (TpuEff nD τ sig (Elt F) Λ₀ .tc) α} :
    held c (halfM b h) q g
      ⊢ iprop((held c (halfM b h) q g -∗ WP c (k g) Q)
          -∗ WP c (.op (.load b (Rect.unit (s := S512x4096) off S256x4096.size inb).toLoadRect hl) k) Q) := by
  subst ho
  have h0 := wp_load (Γ := PendingWaitsCtx.empty) (defs := defs₀ (F := F)) (Q := Q) (k := k) (hl := hl) (q := q) (f := (halfM b h).view.rep (Val := Elt F) g)
    𝒱₀ (c : Thread nD τ) none Set.univ (m := b) (S := (halfM b h).view.set) (by
      show _ ⊆ (b.view.slice (Rect.unit (s := S512x4096) (hOff h) S256x4096.size (hOff_inb h))).set
      rw [View.set_slice]; exact subset_rfl)
  rw [show b.view.readAt (Elt F) (Rect.unit (s := S512x4096) (hOff h) S256x4096.size inb).toLoadRect ((halfM b h).view.rep g) = g from
    Memref.readAt_slice_rep b inb rfl (hOff_inb h) g] at h0
  exact h0

/-- A buffer is loaded whole. -/
theorem step_loadW (c : Dev nD) {q : PosShare TreeShare} {g : S4096x1024.Idx → Elt F .i8}
    {inb : ∀ a, (![0, 0] : Fin 2 → ℕ) a + S4096x1024.size a ≤ S4096x1024.size a}
    {hl : wM.view.LoadsAt (Rect.unit (s := S4096x1024) ![0, 0] S4096x1024.size inb).toLoadRect}
    {α : Type} {Q : α → sProp 𝕄} {k : (S4096x1024.Idx → Elt F .i8) → Prog (TpuEff nD τ sig (Elt F) Λ₀ .tc) α} :
    held c wM q g
      ⊢ iprop((held c wM q g -∗ WP c (k g) Q)
          -∗ WP c (.op (.load wM (Rect.unit (s := S4096x1024) ![0, 0] S4096x1024.size inb).toLoadRect hl) k) Q) := by
  unfold held WP
  iintro H Hk
  iapply (wp_load 𝒱₀ (c : Thread nD τ) none Set.univ (m := wM) (S := wM.view.set) (by
    rw [View.set_whole]; exact Finset.subset_univ _)) $$ H
  iintro H
  rw [show wM.view.readAt (Elt F) (Rect.unit (s := S4096x1024) ![0, 0] S4096x1024.size inb).toLoadRect (wM.view.rep g) = g from
    View.readAt_rep_full wM.view g inb]
  iapply Hk; iexact H

/-- A scale is loaded. -/
theorem step_scale (c : Dev nD) {b : Memref sig .tc .smem S1 .f32} {q : PosShare TreeShare} {f : Buf (Elt F) (b.view.loc (c : Thread nD τ))}
    {inb : ∀ a, (![0] : Fin 1 → ℕ) a + S1.size a ≤ S1.size a}
    {hw : (b.access (Rect.unit (s := S1) ![0] S1.size inb)).Loads} {x : (Rect.unit (s := S1) ![0] S1.size inb).shape.Idx}
    (hb : b.view.set = Finset.univ)
    {α : Type} {Q : α → sProp 𝕄} {k : Elt F .f32 → Prog (TpuEff nD τ sig (Elt F) Λ₀ .tc) α} :
    (b.view.loc (c : Thread nD τ) ↦{q} f)
      ⊢ iprop(((b.view.loc (c : Thread nD τ) ↦{q} f) -∗ WP c (k (b.view.read (Elt F) f i0)) Q)
          -∗ WP c (smemLoadElt b (Rect.unit (s := S1) ![0] S1.size inb) hw x k) Q) := by
  unfold WP
  iintro H Hk
  iapply (wp_smemLoadElt (m := b) (r := Rect.unit (s := S1) ![0] S1.size inb) (f := f) 𝒱₀ (c : Thread nD τ) none Set.univ (S := Finset.univ) (Finset.subset_univ _)) $$ H
  iintro H
  rw [show (b.access (Rect.unit (s := S1) ![0] S1.size inb)).read (Elt F) f x = b.view.read (Elt F) f i0 from
    congrArg (b.view.read (Elt F) f) (funext fun a => Fin.ext (by
      have h1 := ((Rect.unit (s := S1) ![0] S1.size inb).emb x a).isLt
      have h2 : ∀ a, S1.size a = 1 := by decide
      have h3 := h2 a
      show ((Rect.unit (s := S1) ![0] S1.size inb).emb x a).val = 0
      omega))]
  iapply Hk; iexact H

/-! ## The result tiles -/

/-- A tile is loaded, whatever it holds (the program does not use what it reads). -/
theorem step_tload (c : Dev nD) (i : Fin 4) {off : Fin 3 → ℕ} {inb : ∀ a, off a + S1x256x1024.size a ≤ S4x256x1024.size a} (ho : off = tOff i)
    {hl : tM.view.LoadsAt (Rect.unit (s := S4x256x1024) off S1x256x1024.size inb).toLoadRect}
    {α : Type} {Q : α → sProp 𝕄} {k : (S1x256x1024.Idx → Elt F .f32) → Prog (TpuEff nD τ sig (Elt F) Λ₀ .tc) α} :
    heldAny c (tileS i)
      ⊢ iprop((∀ v, heldAny c (tileS i) -∗ WP c (k v) Q)
          -∗ WP c (.op (.load tM (Rect.unit (s := S4x256x1024) off S1x256x1024.size inb).toLoadRect hl) k) Q) := by
  subst ho
  unfold heldAny WP
  iintro ⟨%f, H⟩ Hk
  have h0 : (tM.view.loc (c : Thread nD τ) ↦[(tileS i).view.set]{fullShare} f : sProp 𝕄) ⊢ iprop(_ -∗ _) :=
    wp_load (Γ := PendingWaitsCtx.empty) (defs := defs₀ (F := F)) (Q := Q) (k := k) (hl := hl) 𝒱₀ (c : Thread nD τ) none Set.univ (m := tM) (S := (tileS i).view.set) (by
      show _ ⊆ (tM.view.slice (tileR i)).set
      rw [View.set_slice]; exact subset_rfl)
  have h1 : ((tileS i).view.loc (c : Thread nD τ) ↦[(tileS i).view.set]{fullShare} f : sProp 𝕄) ⊢
      iprop((((tileS i).view.loc (c : Thread nD τ) ↦[(tileS i).view.set]{fullShare} f)
        -∗ WP c (k (tM.view.readAt (Elt F) (Rect.unit (s := S4x256x1024) (tOff i) S1x256x1024.size inb).toLoadRect f)) Q)
        -∗ WP c (.op (.load tM (Rect.unit (s := S4x256x1024) (tOff i) S1x256x1024.size inb).toLoadRect hl) k) Q) := h0
  iapply h1 $$ H
  iintro H
  iapply Hk
  iexists f; iexact H

/-- A tile is stored. -/
theorem step_tstore (c : Dev nD) (i : Fin 4) {off : Fin 3 → ℕ} {inb : ∀ a, off a + S1x256x1024.size a ≤ S4x256x1024.size a} (ho : off = tOff i)
    {pay : S1x256x1024.Idx → Elt F .f32}
    {hx : (tM.access (Rect.unit (s := S4x256x1024) off S1x256x1024.size inb)).Stores Finset.univ} {hm}
    {α : Type} {Q : α → sProp 𝕄} {k : PUnit → Prog (TpuEff nD τ sig (Elt F) Λ₀ .tc) α} :
    heldAny c (tileS i)
      ⊢ iprop((held c (tileS i) fullShare pay -∗ WP c (k ⟨⟩) Q)
          -∗ WP c (.op (.store tM (Rect.unit (s := S4x256x1024) off S1x256x1024.size inb) pay Finset.univ hx hm) k) Q) := by
  subst ho
  unfold heldAny WP
  iintro ⟨%f, H⟩ Hk
  have h0 := wp_store (defs := defs₀ (F := F)) (Q := Q) (k := k) (hx := hx) (hm := hm) (w := pay) (f := f) (Γ := PendingWaitsCtx.empty) 𝒱₀ (c : Thread nD τ) none Set.univ
    (m := tM) (r := tileR i) (Mk := Finset.univ) (S := (tileS i).view.set) (by rw [View.setOn_univ]; exact subset_rfl)
  have h1 : ((tileS i).view.loc (c : Thread nD τ) ↦[(tileS i).view.set]{fullShare} f : sProp 𝕄) ⊢
      iprop((((tileS i).view.loc (c : Thread nD τ) ↦[(tileS i).view.set]{fullShare} (tileS i).view.write (Elt F) f pay Finset.univ)
        -∗ WP c (k ⟨⟩) Q)
        -∗ WP c (.op (.store tM (Rect.unit (s := S4x256x1024) (tOff i) S1x256x1024.size inb) pay Finset.univ hx hm) k) Q) := h0
  iapply h1 $$ H
  iintro H
  iapply Hk
  iapply (held_of_read c (tileS i) (View.read_write_univ _ _)) $$ H

/-- The credit of a tile's copy. -/
abbrev NT : ℕ := (outM 0 0).view.dmaCredit

/-- The copy of tile `i` to half `h` of device `d`'s rows of the result, under way. -/
def TileFly (c : Dev nD) (i : Fin 4) (d : Dev nD) (h : Fin 2) : sProp 𝕄 :=
  Copying c (tileSem i) NT iprop(held c (outM d h) fullShare (res m c d h) ∗ heldAny c (tileS i))

/-- A stored tile is sent to its rows of the result. -/
theorem step_tcopy (c : Dev nD) (i : Fin 4) (d : Dev nD) (h : Fin 2) {src : Memref sig .tc .vmem S256x1024 .f32} {dst : Memref sig .tc .hbm S256x1024 .f32} {q : DmaSem sig}
    (hs : src = tileM i) (hd : dst = outM d h) (hq : q = tileSem i) {pay : S1x256x1024.Idx → Elt F .f32}
    (hp : pay = shapeCast S1x256x1024 (res m c d h) shapeCasts_S256x1024_S1x256x1024)
    {hsrc : src.view.WordExact} {hdst : dst.view.WordExact} {hsem : DmaTarget.Typed (nD := nD) .vmem (.dma q) (.here (p := Proc.tc) dst)}
    {α : Type} {Q : α → sProp 𝕄} {k : PUnit → Prog (TpuEff nD τ sig (Elt F) Λ₀ .tc) α} :
    iprop(held c (tileS i) fullShare pay ∗ heldAny c (outM d h) ∗ semVal ((c : Thread nD τ), .dma (tileSem i)) 0)
      ⊢ iprop((TileFly m c i d h -∗ WP c (k ⟨⟩) Q)
          -∗ WP c (.op (.enqueueDma src (.here (p := Proc.tc) dst) (.dma q) hsrc hdst hsem) k) Q) := by
  subst hs hd hq
  have hset : (tileM i).view.set = (tileS i).view.set := View.set_reshape _ _
  have e : (held c (tileS i) fullShare pay : sProp 𝕄)
      = ((tileM i).view.loc (c : Thread nD τ) ↦[(tileM i).view.set]{fullShare} (tileS i).view.rep pay) := by
    unfold held; rw [hset]; rfl
  rw [e]
  unfold TileFly
  refine step_copy c (tileM i) (outM d h) (tileSem i) (by decide) ((tileS i).view.rep pay) (res m c d h) ?_ _ ?_
  · funext y
    show (tileS i).view.read (Elt F) ((tileS i).view.rep pay) (Shape.reshapeEquiv squeezes_S1x256x1024_S256x1024.numel_eq y) = _
    rw [View.read_rep, hp]
    show res m c d h (Shape.reshapeEquiv _ (Shape.reshapeEquiv _ y)) = _
    rw [Shape.reshapeEquiv_reshapeEquiv, Shape.reshapeEquiv_self]
  · rw [← e]; exact held_any c (tileS i) pay

end Cert.Gather

end
-- ==== Proof.State.lean ====
/-
# The state of a device between two effects

From the moment its own rows of `x` have arrived, all a device holds is described by a small table: for each transfer
whether it is still to be started, under way or over, for each arriving transfer whether it has been awaited, for each
half block how many transfers have borrowed from it, for each result tile what it holds, and for each half block of
result rows whether it has been written. `St` reads such a table as an assertion, and each kind of effect changes one
or two entries.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- A half block: buffer and half. -/
abbrev Piece := Fin 8 × Fin 2

/-- A transfer is to be started, under way, or over. -/
inductive SendSt | ready | flying | over deriving DecidableEq
/-- A result tile is free, holds the rows of a half block, or is being copied out. -/
inductive TileSt | free | full (p : Piece) | flying (p : Piece) deriving DecidableEq
/-- Half a block of result rows is not yet written, being written, or written. -/
inductive OutSt | old | flying | new deriving DecidableEq

/-- The table. -/
structure State where
  snd : Fin 14 → SendSt
  rcv : Fin 14 → Bool
  hold : Piece → Option ℕ
  tile : Fin 4 → TileSt
  out : Piece → OutSt
  todo : List (Fin 14)

namespace State
/-- Transfer `t` is started. -/
abbrev send (s : State) (t : Fin 14) : State :=
  { s with snd := Function.update s.snd t .flying, hold := Function.update s.hold (srcB t, hf t) (some (dep t + 1)), todo := s.todo.tail }
/-- Transfer `t` has been awaited by its receiver. -/
abbrev recv (s : State) (t : Fin 14) : State :=
  { s with rcv := Function.update s.rcv t true, hold := Function.update s.hold (dstB t, hf t) (some 0) }
/-- Transfer `t` has been awaited by its sender. -/
abbrev sent (s : State) (t : Fin 14) : State := { s with snd := Function.update s.snd t .over }
/-- The result rows of `p` are in tile `i`. -/
abbrev store (s : State) (i : Fin 4) (p : Piece) : State := { s with tile := Function.update s.tile i (.full p) }
/-- Tile `i` is on its way to the result rows of `p`. -/
abbrev copy (s : State) (i : Fin 4) (p : Piece) : State :=
  { s with tile := Function.update s.tile i (.flying p), out := Function.update s.out p .flying }
/-- Tile `i` has reached the result rows of `p`. -/
abbrev copied (s : State) (i : Fin 4) (p : Piece) : State :=
  { s with tile := Function.update s.tile i .free, out := Function.update s.out p .new }
end State

variable (m : (ℓ : Loc nD τ sig) → Buf (Elt F) ℓ)
variable (K : Dev nD × Option (Bool × Fin 14) → ℕ)

section Parts
variable (c : Dev nD)

/-- What a transfer's entry stands for at the sender. -/
def sndP (t : Fin 14) : SendSt → sProp 𝕄
  | .ready => iprop(SendKit m K c t ∗ heldAny (tgt t c) (dstM t))
  | .flying => Flying m K c t
  | .over => iprop(Done m K c (some (false, t)) ∗ held c (srcM t) (lent t) (xh m (org (srcB t) c) (hf t)))
/-- At the receiver. -/
def rcvP (t : Fin 14) : Bool → sProp 𝕄
  | false => RecvKit m K c t
  | true => Done m K c (some (true, t))
/-- A half block from which `n` transfers have borrowed. -/
def holdP (p : Piece) : Option ℕ → sProp 𝕄
  | none => iprop(emp)
  | some n => held c (halfM (bufM p.1) p.2) (kept n) (xh m (org p.1 c) p.2)
/-- The result rows of a half block. -/
abbrev resP (p : Piece) : S256x1024.Idx → Elt F .f32 := res m c (org p.1 c) p.2
/-- A result tile. -/
def tileP (i : Fin 4) : TileSt → sProp 𝕄
  | .free => iprop(heldAny c (tileS i) ∗ semVal ((c : Thread nD τ), .dma (tileSem i)) 0)
  | .full p => iprop(held c (tileS i) fullShare (shapeCast S1x256x1024 (resP m c p) shapeCasts_S256x1024_S1x256x1024)
      ∗ semVal ((c : Thread nD τ), .dma (tileSem i)) 0)
  | .flying p => TileFly m c i (org p.1 c) p.2
/-- The rows of the result. -/
def outP (p : Piece) : OutSt → sProp 𝕄
  | .old => heldAny c (outM (org p.1 c) p.2)
  | .flying => iprop(emp)
  | .new => held c (outM (org p.1 c) p.2) fullShare (resP m c p)

/-- What a table says device `c` holds. -/
def St (s : State) : sProp 𝕄 :=
  iprop((bigSep Finset.univ fun t => sndP m K c t (s.snd t)) ∗ (bigSep Finset.univ fun t => rcvP m K c t (s.rcv t))
    ∗ (bigSep Finset.univ fun p => holdP m c p (s.hold p)) ∗ (bigSep Finset.univ fun i => tileP m c i (s.tile i))
    ∗ (bigSep Finset.univ fun p => outP m c p (s.out p)) ∗ Owes c s.todo ∗ levAts L lv)

/-- One entry of a column is read, and the column is back with a new entry there; -/
theorem entry {I α : Type} [Fintype I] [DecidableEq I] (P : I → α → sProp 𝕄) (f : I → α) (i : I) {a : α} (h : f i = a) (b : α)
    (A B : sProp 𝕄) (hA : P i a = A) (hB : P i b = B) :
    (bigSep Finset.univ fun j => P j (f j)) ⊢ iprop(A ∗ (B -∗ bigSep Finset.univ fun j => P j (Function.update f i b j))) := by
  subst h hA hB
  iintro H
  ihave ⟨H, Hb⟩ := (bigSep_univ_turn (α := fun _ => α) P f i) $$ H
  isplitl [H]; · iexact H
  iapply Hb

/-- or with the old one. -/
theorem entry_same {I α : Type} [Fintype I] [DecidableEq I] (P : I → α → sProp 𝕄) (f : I → α) (i : I) {a : α} (h : f i = a)
    (A : sProp 𝕄) (hA : P i a = A) :
    (bigSep Finset.univ fun j => P j (f j)) ⊢ iprop(A ∗ (A -∗ bigSep Finset.univ fun j => P j (f j))) := by
  have e := entry P f i h (f i) A A hA (by rw [h]; exact hA)
  rwa [Function.update_eq_self] at e

/-! ## The effects on the table

Each lemma reads: if the rest of the program is right from the new table on, then it is right with the effect in front
from the old table on. `C` is what the device holds beside the table. -/

variable {c}

theorem st_send (s : State) (t : Fin 14) (h1 : s.snd t = .ready) (h2 : s.hold (srcB t, hf t) = some (dep t)) (h3 : s.todo = t :: s.todo.tail)
    {c' : Dev nD} {src dst : Memref sig .tc .vmem S256x4096 .i8} {sS sR : DmaSem sig}
    (hc : c' = tgt t c) (hs : src = srcM t) (hd : dst = dstM t) (hS : sS = sendS t) (hR : sR = recvS t)
    {hsc : (dst : Memref sig (Dev.tc c' : Thread nD τ).2.kind .vmem S256x4096 .i8).view.ref.isScScratch = false}
    {hsrc : src.view.WordExact} {hdst : dst.view.WordExact}
    {hsem : DmaTarget.Typed .vmem (.dma sR) (.remote (Dev.tc c' : Thread nD τ) dst (.dma sS) hsc)}
    {α : Type} {C : sProp 𝕄} {Q : α → sProp 𝕄} {k : PUnit → Prog (TpuEff nD τ sig (Elt F) Λ₀ .tc) α}
    (next : iprop(St m K c (s.send t) ∗ C) ⊢ WP c (k ⟨⟩) Q) :
    iprop(St m K c s ∗ C) ⊢ WP c (.op (.enqueueDma src (.remote (Dev.tc c' : Thread nD τ) dst (.dma sS) hsc) (.dma sR) hsrc hdst hsem) k) Q := by
  unfold St
  iintro ⟨⟨Hs, Hr, Hh, Ht, Ho, HO, #Hl⟩, HC⟩
  ihave ⟨⟨Hkit, Hd⟩, Bs⟩ := (entry (sndP m K c) s.snd t h1 .flying iprop(SendKit m K c t ∗ heldAny (tgt t c) (dstM t)) (Flying m K c t) rfl rfl) $$ Hs
  ihave ⟨Hh, Bh⟩ := (entry (holdP m c) s.hold (srcB t, hf t) h2 (some (dep t + 1)) (held c (srcM t) (kept (dep t)) (xh m (org (srcB t) c) (hf t)))
    (held c (srcM t) (kept (dep t)).left (xh m (org (srcB t) c) (hf t))) rfl rfl) $$ Hh
  ihave ⟨Hk, Hq⟩ := (held_split c (srcM t) (kept (dep t)) (xh m (org (srcB t) c) (hf t))) $$ Hh
  rw [h3]
  iapply (step_send m K c t s.todo.tail hc hs hd hS hR) $$ [Hkit Hd Hq HO]
  · isplitl [Hkit]; · iexact Hkit
    isplitl [Hq]; · iexact Hq
    isplitl [Hd]; · iexact Hd
    iexact HO
  iintro ⟨Hf, HO⟩
  iapply next
  unfold St
  isplitr [HC]
  · isplitl [Bs Hf]
    · iapply Bs $$ Hf
    isplitl [Hr]; · iexact Hr
    isplitl [Bh Hk]
    · iapply Bh $$ Hk
    isplitl [Ht]; · iexact Ht
    isplitl [Ho]; · iexact Ho
    isplitl [HO]; · iexact HO
    iexact Hl
  · iexact HC

theorem st_recv (s : State) (t : Fin 14) (h1 : s.rcv t = false) (h2 : s.hold (dstB t, hf t) = none)
    (hl : ∀ t' ∈ s.todo, lvS (.dma (recvS t)) < lvS (.dma (recvS t')))
    {sh sh' : Shape} {e e' : EltTy} {sp sp' : Space} {κ' : Kind} {sR : DmaSem sig} (hR : sR = recvS t)
    {srcw : Memref sig .tc sp sh e} {dstw : Memref sig κ' sp' sh' e'} {hsrc : srcw.view.WordExact} {hdst : dstw.view.WordExact}
    (hN : dstw.view.dmaCredit = N) {α : Type} {C : sProp 𝕄} {Q : α → sProp 𝕄} {k : PUnit → Prog (TpuEff nD τ sig (Elt F) Λ₀ .tc) α}
    (next : iprop(St m K c (s.recv t) ∗ C) ⊢ WP c (k ⟨⟩) Q) :
    iprop(St m K c s ∗ C) ⊢ WP c (.op (.waitDma2 sR srcw dstw hsrc hdst) k) Q := by
  unfold St
  iintro ⟨⟨Hs, Hr, Hh, Ht, Ho, HO, #Hl⟩, HC⟩
  ihave ⟨Hr, Br⟩ := (entry (rcvP m K c) s.rcv t h1 true (RecvKit m K c t) (Done m K c (some (true, t))) rfl rfl) $$ Hr
  ihave ⟨-, Bh⟩ := (entry (holdP m c) s.hold (dstB t, hf t) h2 (some 0) iprop(emp) (held c (dstM t) fullShare (xh m (org (dstB t) c) (hf t))) rfl rfl) $$ Hh
  iapply (step_recv m K c t s.todo hR hN hl) $$ [Hr HO]
  · isplitl [Hr]; · iexact Hr
    isplitl [HO]; · iexact HO
    iexact Hl
  iintro ⟨Hr, Hh, HO⟩
  iapply next
  unfold St
  isplitr [HC]
  · isplitl [Hs]; · iexact Hs
    isplitl [Br Hr]
    · iapply Br $$ Hr
    isplitl [Bh Hh]
    · iapply Bh $$ Hh
    isplitl [Ht]; · iexact Ht
    isplitl [Ho]; · iexact Ho
    isplitl [HO]; · iexact HO
    iexact Hl
  · iexact HC

theorem st_sent (s : State) (t : Fin 14) (h1 : s.snd t = .flying) (hl : ∀ t' ∈ s.todo, lvS (.dma (sendS t)) < lvS (.dma (recvS t')))
    {sh sh' : Shape} {e e' : EltTy} {sp sp' : Space} {κ' : Kind} {sS : DmaSem sig} (hS : sS = sendS t)
    {srcw : Memref sig .tc sp sh e} {dstw : Memref sig κ' sp' sh' e'} {hsrc : srcw.view.WordExact} {hdst : dstw.view.WordExact}
    (hN : dstw.view.dmaCredit = N) {α : Type} {C : sProp 𝕄} {Q : α → sProp 𝕄} {k : PUnit → Prog (TpuEff nD τ sig (Elt F) Λ₀ .tc) α}
    (next : iprop(St m K c (s.sent t) ∗ C) ⊢ WP c (k ⟨⟩) Q) :
    iprop(St m K c s ∗ C) ⊢ WP c (.op (.waitDma2 sS srcw dstw hsrc hdst) k) Q := by
  unfold St
  iintro ⟨⟨Hs, Hr, Hh, Ht, Ho, HO, #Hl⟩, HC⟩
  ihave ⟨Hs, Bs⟩ := (entry (sndP m K c) s.snd t h1 .over (Flying m K c t)
    iprop(Done m K c (some (false, t)) ∗ held c (srcM t) (lent t) (xh m (org (srcB t) c) (hf t))) rfl rfl) $$ Hs
  iapply (step_sent m K c t s.todo hS hN hl) $$ [Hs HO]
  · isplitl [Hs]; · iexact Hs
    isplitl [HO]; · iexact HO
    iexact Hl
  iintro ⟨Hd, Hq, HO⟩
  iapply next
  unfold St
  isplitr [HC]
  · isplitl [Bs Hd Hq]
    · iapply Bs
      isplitl [Hd]; · iexact Hd
      iexact Hq
    isplitl [Hr]; · iexact Hr
    isplitl [Hh]; · iexact Hh
    isplitl [Ht]; · iexact Ht
    isplitl [Ho]; · iexact Ho
    isplitl [HO]; · iexact HO
    iexact Hl
  · iexact HC

theorem st_load (s : State) (p : Piece) (n : ℕ) (h1 : s.hold p = some n) {b : Memref sig .tc .vmem S512x4096 .i8} (hb : b = bufM p.1)
    {off : Fin 2 → ℕ} {inb : ∀ a, off a + S256x4096.size a ≤ S512x4096.size a} (ho : off = hOff p.2)
    {hl : b.view.LoadsAt (Rect.unit (s := S512x4096) off S256x4096.size inb).toLoadRect}
    {α : Type} {C : sProp 𝕄} {Q : α → sProp 𝕄} {k : (S256x4096.Idx → Elt F .i8) → Prog (TpuEff nD τ sig (Elt F) Λ₀ .tc) α}
    (next : iprop(St m K c s ∗ C) ⊢ WP c (k (xh m (org p.1 c) p.2)) Q) :
    iprop(St m K c s ∗ C) ⊢ WP c (.op (.load b (Rect.unit (s := S512x4096) off S256x4096.size inb).toLoadRect hl) k) Q := by
  subst hb
  unfold St
  iintro ⟨⟨Hs, Hr, Hh, Ht, Ho, HO, #Hl⟩, HC⟩
  ihave ⟨Hp, Bh⟩ := (entry_same (holdP m c) s.hold p h1 (held c (halfM (bufM p.1) p.2) (kept n) (xh m (org p.1 c) p.2)) rfl) $$ Hh
  iapply (step_load c (bufM p.1) p.2 ho (q := kept n) (g := xh m (org p.1 c) p.2)) $$ Hp
  iintro Hp
  iapply next
  unfold St
  isplitr [HC]
  · isplitl [Hs]; · iexact Hs
    isplitl [Hr]; · iexact Hr
    isplitl [Bh Hp]
    · iapply Bh $$ Hp
    isplitl [Ht]; · iexact Ht
    isplitl [Ho]; · iexact Ho
    isplitl [HO]; · iexact HO
    iexact Hl
  · iexact HC

theorem st_tload (s : State) (i : Fin 4) (h1 : s.tile i = .free) {off : Fin 3 → ℕ} {inb : ∀ a, off a + S1x256x1024.size a ≤ S4x256x1024.size a} (ho : off = tOff i)
    {hl : tM.view.LoadsAt (Rect.unit (s := S4x256x1024) off S1x256x1024.size inb).toLoadRect}
    {α : Type} {C : sProp 𝕄} {Q : α → sProp 𝕄} {k : (S1x256x1024.Idx → Elt F .f32) → Prog (TpuEff nD τ sig (Elt F) Λ₀ .tc) α}
    (next : ∀ v, iprop(St m K c s ∗ C) ⊢ WP c (k v) Q) :
    iprop(St m K c s ∗ C) ⊢ WP c (.op (.load tM (Rect.unit (s := S4x256x1024) off S1x256x1024.size inb).toLoadRect hl) k) Q := by
  unfold St
  iintro ⟨⟨Hs, Hr, Hh, Ht, Ho, HO, #Hl⟩, HC⟩
  ihave ⟨⟨Hp, Hv⟩, Bt⟩ := (entry_same (tileP m c) s.tile i h1 iprop(heldAny c (tileS i) ∗ semVal ((c : Thread nD τ), .dma (tileSem i)) 0) rfl) $$ Ht
  iapply (step_tload c i ho) $$ Hp
  iintro %v Hp
  iapply (next v)
  unfold St
  isplitr [HC]
  · isplitl [Hs]; · iexact Hs
    isplitl [Hr]; · iexact Hr
    isplitl [Hh]; · iexact Hh
    isplitl [Bt Hp Hv]
    · iapply Bt
      isplitl [Hp]; · iexact Hp
      iexact Hv
    isplitl [Ho]; · iexact Ho
    isplitl [HO]; · iexact HO
    iexact Hl
  · iexact HC

theorem st_store (s : State) (i : Fin 4) (p : Piece) (h1 : s.tile i = .free)
    {off : Fin 3 → ℕ} {inb : ∀ a, off a + S1x256x1024.size a ≤ S4x256x1024.size a} (ho : off = tOff i)
    {pay : S1x256x1024.Idx → Elt F .f32} (hp : pay = shapeCast S1x256x1024 (resP m c p) shapeCasts_S256x1024_S1x256x1024)
    {hx : (tM.access (Rect.unit (s := S4x256x1024) off S1x256x1024.size inb)).Stores Finset.univ} {hm}
    {α : Type} {C : sProp 𝕄} {Q : α → sProp 𝕄} {k : PUnit → Prog (TpuEff nD τ sig (Elt F) Λ₀ .tc) α}
    (next : iprop(St m K c (s.store i p) ∗ C) ⊢ WP c (k ⟨⟩) Q) :
    iprop(St m K c s ∗ C) ⊢ WP c (.op (.store tM (Rect.unit (s := S4x256x1024) off S1x256x1024.size inb) pay Finset.univ hx hm) k) Q := by
  subst hp
  unfold St
  iintro ⟨⟨Hs, Hr, Hh, Ht, Ho, HO, #Hl⟩, HC⟩
  ihave ⟨⟨Hp, Hv⟩, Bt⟩ := (entry (tileP m c) s.tile i h1 (.full p) iprop(heldAny c (tileS i) ∗ semVal ((c : Thread nD τ), .dma (tileSem i)) 0)
    iprop(held c (tileS i) fullShare (shapeCast S1x256x1024 (resP m c p) shapeCasts_S256x1024_S1x256x1024)
      ∗ semVal ((c : Thread nD τ), .dma (tileSem i)) 0) rfl rfl) $$ Ht
  iapply (step_tstore c i ho) $$ Hp
  iintro Hp
  iapply next
  unfold St
  isplitr [HC]
  · isplitl [Hs]; · iexact Hs
    isplitl [Hr]; · iexact Hr
    isplitl [Hh]; · iexact Hh
    isplitl [Bt Hp Hv]
    · iapply Bt
      isplitl [Hp]; · iexact Hp
      iexact Hv
    isplitl [Ho]; · iexact Ho
    isplitl [HO]; · iexact HO
    iexact Hl
  · iexact HC

theorem st_copy (s : State) (i : Fin 4) (p : Piece) (h1 : s.tile i = .full p) (h2 : s.out p = .old)
    {src : Memref sig .tc .vmem S256x1024 .f32} {dst : Memref sig .tc .hbm S256x1024 .f32} {q : DmaSem sig}
    (hs : src = tileM i) (hd : dst = outM (org p.1 c) p.2) (hq : q = tileSem i)
    {hsrc : src.view.WordExact} {hdst : dst.view.WordExact} {hsem : DmaTarget.Typed (nD := nD) .vmem (.dma q) (.here (p := Proc.tc) dst)}
    {α : Type} {C : sProp 𝕄} {Q : α → sProp 𝕄} {k : PUnit → Prog (TpuEff nD τ sig (Elt F) Λ₀ .tc) α}
    (next : iprop(St m K c (s.copy i p) ∗ C) ⊢ WP c (k ⟨⟩) Q) :
    iprop(St m K c s ∗ C) ⊢ WP c (.op (.enqueueDma src (.here (p := Proc.tc) dst) (.dma q) hsrc hdst hsem) k) Q := by
  unfold St
  iintro ⟨⟨Hs, Hr, Hh, Ht, Ho, HO, #Hl⟩, HC⟩
  ihave ⟨⟨Hp, Hv⟩, Bt⟩ := (entry (tileP m c) s.tile i h1 (.flying p) iprop(held c (tileS i) fullShare (shapeCast S1x256x1024 (resP m c p) shapeCasts_S256x1024_S1x256x1024)
      ∗ semVal ((c : Thread nD τ), .dma (tileSem i)) 0)
    (TileFly m c i (org p.1 c) p.2) rfl rfl) $$ Ht
  ihave ⟨Hq, Bo⟩ := (entry (outP m c) s.out p h2 .flying (heldAny c (outM (org p.1 c) p.2)) iprop(emp) rfl rfl) $$ Ho
  iapply (step_tcopy m c i (org p.1 c) p.2 hs hd hq rfl) $$ [Hp Hq Hv]
  · isplitl [Hp]; · iexact Hp
    isplitl [Hq]; · iexact Hq
    iexact Hv
  iintro Hf
  iapply next
  unfold St
  isplitr [HC]
  · isplitl [Hs]; · iexact Hs
    isplitl [Hr]; · iexact Hr
    isplitl [Hh]; · iexact Hh
    isplitl [Bt Hf]
    · iapply Bt $$ Hf
    isplitl [Bo]
    · iapply Bo; iempintro
    isplitl [HO]; · iexact HO
    iexact Hl
  · iexact HC

theorem st_copied (s : State) (i : Fin 4) (p : Piece) (h1 : s.tile i = .flying p) (h2 : s.out p = .flying)
    (hl : ∀ t' ∈ s.todo, lvS (.dma (tileSem i)) < lvS (.dma (recvS t')))
    {sh sh' : Shape} {e e' : EltTy} {sp sp' : Space} {κ' : Kind} {q : DmaSem sig} (hq : q = tileSem i)
    {srcw : Memref sig .tc sp sh e} {dstw : Memref sig κ' sp' sh' e'} {hsrc : srcw.view.WordExact} {hdst : dstw.view.WordExact}
    (hN : dstw.view.dmaCredit = NT) {α : Type} {C : sProp 𝕄} {Q : α → sProp 𝕄} {k : PUnit → Prog (TpuEff nD τ sig (Elt F) Λ₀ .tc) α}
    (next : iprop(St m K c (s.copied i p) ∗ C) ⊢ WP c (k ⟨⟩) Q) :
    iprop(St m K c s ∗ C) ⊢ WP c (.op (.waitDma2 q srcw dstw hsrc hdst) k) Q := by
  unfold St
  iintro ⟨⟨Hs, Hr, Hh, Ht, Ho, HO, #Hl⟩, HC⟩
  ihave ⟨Hp, Bt⟩ := (entry (tileP m c) s.tile i h1 .free (TileFly m c i (org p.1 c) p.2)
    iprop(heldAny c (tileS i) ∗ semVal ((c : Thread nD τ), .dma (tileSem i)) 0) rfl rfl) $$ Ht
  ihave ⟨-, Bo⟩ := (entry (outP m c) s.out p h2 .new iprop(emp) (held c (outM (org p.1 c) p.2) fullShare (resP m c p)) rfl rfl) $$ Ho
  unfold TileFly
  iapply (step_copied c s.todo hq hN hl) $$ [Hp HO]
  · isplitl [Hp]; · iexact Hp
    isplitl [HO]; · iexact HO
    iexact Hl
  iintro ⟨⟨Hq, Hp⟩, Hv, HO⟩
  iapply next
  unfold St
  isplitr [HC]
  · isplitl [Hs]; · iexact Hs
    isplitl [Hr]; · iexact Hr
    isplitl [Hh]; · iexact Hh
    isplitl [Bt Hp Hv]
    · iapply Bt
      isplitl [Hp]; · iexact Hp
      iexact Hv
    isplitl [Bo Hq]
    · iapply Bo $$ Hq
    isplitl [HO]; · iexact HO
    iexact Hl
  · iexact HC

/-- The end of a part. -/
theorem st_done {c : Dev nD} {α : Type} {Q : α → sProp 𝕄} {P : sProp 𝕄} (a : α) (next : P ⊢ Q a) : P ⊢ WP c (.ret a) Q := next.trans (le_wp_ret _ _ _ a Q)

end Parts

end Cert.Gather

end
-- ==== Proof.Parts.lean ====
/-
# The parts of the kernel's body

The program is printed in 23 parts. For each part from the second on the table before it and after it are given, and
the part is right from the one to the other.
-/
module

public import proofs.«01_k».proof.Proof.State

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- The table when the device's own rows have arrived. -/
def s1 : State where
  snd _ := .ready
  rcv _ := false
  hold p := if p.1 = 7 then some 0 else none
  tile _ := .free
  out _ := .old
  todo := sendOrder

/-- After part 2. -/
def s2 : State := (((s1.send 0).send 1).send 2).send 3
/-- After part 3. -/
def s3 : State := ((s2.send 4).send 5).store 0 (7, 0)
/-- After part 4. -/
def s4 : State := ((s3.copy 0 (7, 0)).store 1 (7, 1)).copy 1 (7, 1)
/-- After part 5. -/
def s5 : State := (s4.recv 4).send 10
/-- After part 6. -/
def s6 : State := (((s5.store 2 (2, 0)).copy 2 (2, 0)).recv 0).send 6
/-- After part 7. -/
def s7 : State := (((s6.send 8).store 3 (0, 0)).copy 3 (0, 0)).recv 5
/-- After part 8. -/
def s8 : State := (((s7.send 11).copied 0 (7, 0)).store 0 (2, 1)).copy 0 (2, 1)
/-- After part 9. -/
def s9 : State := ((s8.recv 1).send 7).send 9
/-- After part 10. -/
def s10 : State := (((s9.copied 1 (7, 1)).store 1 (0, 1)).copy 1 (0, 1)).recv 2
/-- After part 11. -/
def s11 : State := (((s10.copied 2 (2, 0)).store 2 (1, 0)).copy 2 (1, 0)).recv 3
/-- After part 12. -/
def s12 : State := ((((s11.copied 3 (0, 0)).store 3 (1, 1)).copy 3 (1, 1)).recv 8).send 12
/-- After part 13. -/
def s13 : State := (((s12.copied 0 (2, 1)).store 0 (4, 0)).copy 0 (4, 0)).recv 6
/-- After part 14. -/
def s14 : State := (((s13.copied 1 (0, 1)).store 1 (3, 0)).copy 1 (3, 0)).recv 7
/-- After part 15. -/
def s15 : State := (((s14.send 13).copied 2 (1, 0)).store 2 (3, 1)).copy 2 (3, 1)
/-- After part 16. -/
def s16 : State := (((s15.recv 9).copied 3 (1, 1)).store 3 (4, 1)).copy 3 (4, 1)
/-- After part 17. -/
def s17 : State := (((s16.recv 10).copied 0 (4, 0)).store 0 (5, 0)).copy 0 (5, 0)
/-- After part 18. -/
def s18 : State := (((s17.recv 11).copied 1 (3, 0)).store 1 (5, 1)).copy 1 (5, 1)
/-- After part 19. -/
def s19 : State := (((s18.recv 12).copied 2 (3, 1)).store 2 (6, 0)).copy 2 (6, 0)
/-- After part 20. -/
def s20 : State := (((s19.recv 13).copied 3 (4, 1)).store 3 (6, 1)).copy 3 (6, 1)
/-- After part 21. -/
def s21 : State := ((((s20.sent 0).sent 1).sent 2).sent 3).sent 4
/-- After part 22. -/
def s22 : State := ((((s21.sent 5).sent 6).sent 7).sent 8).sent 9
/-- After part 23. -/
def s23 : State := ((((s22.sent 10).sent 11).sent 12).sent 13).copied 0 (5, 0)

/-- A part at the buffers the kernel is launched with. -/
abbrev atArgs {β : Type 1} (f : (a0 : Memref sig .tc .hbm S512x4096 .i8) → a0.IsWhole → (a1 : Memref sig .tc .hbm S4096x1024 .i8) → a1.IsWhole → (a2 : Memref sig .tc .smem S1 .f32) → a2.IsWhole →
      (a3 : Memref sig .tc .smem S1 .f32) → a3.IsWhole → (a4 : Memref sig .tc .hbm S4096x1024 .f32) → a4.IsWhole → (a5 : Memref sig .tc .vmem S512x4096 .i8) → a5.IsWhole →
      (a6 : Memref sig .tc .vmem S512x4096 .i8) → a6.IsWhole → (a7 : Memref sig .tc .vmem S512x4096 .i8) → a7.IsWhole → (a8 : Memref sig .tc .vmem S512x4096 .i8) → a8.IsWhole →
      (a9 : Memref sig .tc .vmem S512x4096 .i8) → a9.IsWhole → (a10 : Memref sig .tc .vmem S512x4096 .i8) → a10.IsWhole → (a11 : Memref sig .tc .vmem S512x4096 .i8) → a11.IsWhole →
      (a12 : Memref sig .tc .vmem S512x4096 .i8) → a12.IsWhole → (a13 : Memref sig .tc .vmem S4096x1024 .i8) → a13.IsWhole → (a14 : Memref sig .tc .vmem S4x256x1024 .f32) → a14.IsWhole →
      DmaSems sig S14 → DmaSems sig S14 → DmaSems sig S_ → DmaSems sig S_ → DmaSems sig S4 → β) : β :=
  f xA (Memref.isWhole_whole _) wA (Memref.isWhole_whole _) sxM (Memref.isWhole_whole _) swM (Memref.isWhole_whole _) oA (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) wM (Memref.isWhole_whole _) tM (Memref.isWhole_whole _)
    cc0_scratch10 cc0_scratch11 cc0_scratch12 cc0_scratch13 cc0_scratch14

variable (m : (ℓ : Loc nD τ sig) → Buf (Elt F) ℓ) (K : Dev nD × Option (Bool × Fin 14) → ℕ) (c : Dev nD)

theorem part2 {v7 v10 v12 : BitVec 32} {C : sProp 𝕄} {Q : BitVec 32 → sProp 𝕄} (next : ∀ a, iprop(St m K c s2 ∗ C) ⊢ Q a) :
    iprop(St m K c s1 ∗ C) ⊢ WP c (atArgs (k0_part2 (F := F)) c v7 v10 v12) Q := by
  unfold atArgs
  rw [k0_part2_eq_skeleton]
  unfold k0_part2_skel
  simp only [Prog.lift, Prog.bind_op, Prog.bind_ret, Prog.pure_eq_ret]
  refine st_send m K _ 0 (by decide +kernel) (by decide +kernel) (by decide +kernel) (dev4_eq c) (by rfl) (by rfl) (by rfl) (by rfl) ?_
  refine st_send m K _ 1 (by decide +kernel) (by decide +kernel) (by decide +kernel) (dev5_eq c) (by rfl) (by rfl) (by rfl) (by rfl) ?_
  refine st_send m K _ 2 (by decide +kernel) (by decide +kernel) (by decide +kernel) (dev6_eq c) (by rfl) (by rfl) (by rfl) (by rfl) ?_
  refine st_send m K _ 3 (by decide +kernel) (by decide +kernel) (by decide +kernel) (dev7_eq c) (by rfl) (by rfl) (by rfl) (by rfl) ?_
  exact st_done _ (next _)

theorem part4 {v2 v3 v4 v83 : BitVec 32} {C : sProp 𝕄} {Q : (Σ' (_ : BitVec 32) (_ : BitVec 32), BitVec 32) → sProp 𝕄} (next : ∀ r, iprop(St m K c s4 ∗ C) ⊢ Q r) :
    iprop(St m K c s3 ∗ C) ⊢ WP c (atArgs (k0_part4 (F := F)) c v2 v3 v4 (k0_pay1 (sx m c) (sw m c)) (k0_pay2 (ws m c)) v83) Q := by
  unfold atArgs
  rw [k0_part4_eq_skeleton]
  unfold k0_part4_skel
  simp only [Prog.lift, Prog.bind_op, Prog.bind_ret, Prog.pure_eq_ret]
  refine st_copy m K _ 0 (7, 0) (by decide +kernel) (by decide +kernel) (by rfl) (out_slice_eq _ (off1_eq c).1) (by rfl) ?_
  refine st_load m K _ (7, 1) 3 (by decide +kernel) (by rfl) (by rfl) ?_
  refine st_tload m K _ 1 (by decide +kernel) (by rfl) fun _ => ?_
  refine st_store m K _ 1 (7, 1) (by decide +kernel) (by rfl) (by rfl) ?_
  refine st_copy m K _ 1 (7, 1) (by decide +kernel) (by decide +kernel) (by rfl) (out_slice_eq _ (off1_eq c).2) (by rfl) ?_
  exact st_done _ (next _)

theorem part5 {v4 v10 v12 v109 v112 v114 : BitVec 32} {C : sProp 𝕄} {Q : (Σ' (_ : BitVec 32) (_ : BitVec 32) (_ : BitVec 32) (_ : BitVec 32) (_ : FVec F S256x1024 .f32), Vec F S1x256x1024 .f32) → sProp 𝕄} (next : ∀ a b d e v, iprop(St m K c s5 ∗ C) ⊢ Q ⟨a, b, d, e, resP m c (2, 0), v⟩) :
    iprop(St m K c s4 ∗ C) ⊢ WP c (atArgs (k0_part5 (F := F)) c v4 v10 v12 (k0_pay1 (sx m c) (sw m c)) (k0_pay2 (ws m c)) v109 v112 v114) Q := by
  unfold atArgs
  rw [k0_part5_eq_skeleton]
  unfold k0_part5_skel
  simp only [Prog.lift, Prog.bind_op, Prog.bind_ret, Prog.pure_eq_ret]
  refine st_recv m K _ 4 (by decide +kernel) (by decide +kernel) (by decide +kernel) (by rfl) (by rfl) ?_
  refine st_send m K _ 10 (by decide +kernel) (by decide +kernel) (by decide +kernel) (dev10_eq c) (by rfl) (by rfl) (by rfl) (by rfl) ?_
  refine st_load m K _ (2, 0) 1 (by decide +kernel) (by rfl) (by rfl) ?_
  refine st_tload m K _ 2 (by decide +kernel) (by rfl) fun _ => ?_
  exact st_done _ (next _ _ _ _ _)

theorem part6 {v7 v12 : BitVec 32} {v : Vec F S1x256x1024 .f32} {C : sProp 𝕄} {Q : PUnit → sProp 𝕄} (next : iprop(St m K c s6 ∗ C) ⊢ Q ⟨⟩) :
    iprop(St m K c s5 ∗ C) ⊢ WP c (atArgs (k0_part6 (F := F)) c v7 v12 (resP m c (2, 0)) v) Q := by
  unfold atArgs
  rw [k0_part6_eq_skeleton]
  unfold k0_part6_skel
  simp only [Prog.lift, Prog.bind_op, Prog.bind_ret, Prog.pure_eq_ret]
  refine st_store m K _ 2 (2, 0) (by decide +kernel) (by rfl) (by rfl) ?_
  refine st_copy m K _ 2 (2, 0) (by decide +kernel) (by decide +kernel) (by rfl) (out_slice_eq _ (off2_eq c).1) (by rfl) ?_
  refine st_recv m K _ 0 (by decide +kernel) (by decide +kernel) (by decide +kernel) (by rfl) (by rfl) ?_
  refine st_send m K _ 6 (by decide +kernel) (by decide +kernel) (by decide +kernel) (dev11_eq c) (by rfl) (by rfl) (by rfl) (by rfl) ?_
  exact st_done _ next

theorem part7 {v10 v12 v109 : BitVec 32} {C : sProp 𝕄} {Q : (Σ' (_ : BitVec 32), BitVec 32) → sProp 𝕄} (next : ∀ r, iprop(St m K c s7 ∗ C) ⊢ Q r) :
    iprop(St m K c s6 ∗ C) ⊢ WP c (atArgs (k0_part7 (F := F)) c v10 v12 (k0_pay1 (sx m c) (sw m c)) (k0_pay2 (ws m c)) v109) Q := by
  unfold atArgs
  rw [k0_part7_eq_skeleton]
  unfold k0_part7_skel
  simp only [Prog.lift, Prog.bind_op, Prog.bind_ret, Prog.pure_eq_ret]
  refine st_send m K _ 8 (by decide +kernel) (by decide +kernel) (by decide +kernel) (dev12_eq c) (by rfl) (by rfl) (by rfl) (by rfl) ?_
  refine st_load m K _ (0, 0) 2 (by decide +kernel) (by rfl) (by rfl) ?_
  refine st_tload m K _ 3 (by decide +kernel) (by rfl) fun _ => ?_
  refine st_store m K _ 3 (0, 0) (by decide +kernel) (by rfl) (by rfl) ?_
  refine st_copy m K _ 3 (0, 0) (by decide +kernel) (by decide +kernel) (by rfl) (out_slice_eq _ (off3_eq c).1.1) (by rfl) ?_
  refine st_recv m K _ 5 (by decide +kernel) (by decide +kernel) (by decide +kernel) (by rfl) (by rfl) ?_
  exact st_done _ (next _)

theorem part8 {v7 v12 v198 v0 : BitVec 32} {C : sProp 𝕄} {Q : BitVec 32 → sProp 𝕄} (next : ∀ r, iprop(St m K c s8 ∗ C) ⊢ Q r) :
    iprop(St m K c s7 ∗ C) ⊢ WP c (atArgs (k0_part8 (F := F)) c v7 v12 (k0_pay1 (sx m c) (sw m c)) (k0_pay2 (ws m c)) v198 v0) Q := by
  unfold atArgs
  rw [k0_part8_eq_skeleton]
  unfold k0_part8_skel
  simp only [Prog.lift, Prog.bind_op, Prog.bind_ret, Prog.pure_eq_ret]
  refine st_send m K _ 11 (by decide +kernel) (by decide +kernel) (by decide +kernel) (dev13_eq c) (by rfl) (by rfl) (by rfl) (by rfl) ?_
  refine st_load m K _ (2, 1) 1 (by decide +kernel) (by rfl) (by rfl) ?_
  refine st_copied m K _ 0 (7, 0) (by decide +kernel) (by decide +kernel) (by decide +kernel) (by rfl) (by rfl) ?_
  refine st_tload m K _ 0 (by decide +kernel) (by rfl) fun _ => ?_
  refine st_store m K _ 0 (2, 1) (by decide +kernel) (by rfl) (by rfl) ?_
  refine st_copy m K _ 0 (2, 1) (by decide +kernel) (by decide +kernel) (by rfl) (out_slice_eq _ (off2_eq c).2) (by rfl) ?_
  exact st_done _ (next _)

theorem part9 {v7 v12 v228 : BitVec 32} {C : sProp 𝕄} {Q : (FVec F S256x1024 .f32) → sProp 𝕄} (next : iprop(St m K c s9 ∗ C) ⊢ Q (resP m c (0, 1))) :
    iprop(St m K c s8 ∗ C) ⊢ WP c (atArgs (k0_part9 (F := F)) c v7 v12 (k0_pay1 (sx m c) (sw m c)) (k0_pay2 (ws m c)) v228) Q := by
  unfold atArgs
  rw [k0_part9_eq_skeleton]
  unfold k0_part9_skel
  simp only [Prog.lift, Prog.bind_op, Prog.bind_ret, Prog.pure_eq_ret]
  refine st_recv m K _ 1 (by decide +kernel) (by decide +kernel) (by decide +kernel) (by rfl) (by rfl) ?_
  refine st_send m K _ 7 (by decide +kernel) (by decide +kernel) (by decide +kernel) (dev14_eq c) (by rfl) (by rfl) (by rfl) (by rfl) ?_
  refine st_send m K _ 9 (by decide +kernel) (by decide +kernel) (by decide +kernel) (dev15_eq c) (by rfl) (by rfl) (by rfl) (by rfl) ?_
  refine st_load m K _ (0, 1) 2 (by decide +kernel) (by rfl) (by rfl) ?_
  exact st_done _ next

theorem part10 {v10 v109 : BitVec 32} {C : sProp 𝕄} {Q : (FVec F S256x1024 .f32) → sProp 𝕄} (next : iprop(St m K c s10 ∗ C) ⊢ Q (resP m c (1, 0))) :
    iprop(St m K c s9 ∗ C) ⊢ WP c (atArgs (k0_part10 (F := F)) c v10 (k0_pay1 (sx m c) (sw m c)) (k0_pay2 (ws m c)) v109 (resP m c (0, 1))) Q := by
  unfold atArgs
  rw [k0_part10_eq_skeleton]
  unfold k0_part10_skel
  simp only [Prog.lift, Prog.bind_op, Prog.bind_ret, Prog.pure_eq_ret]
  refine st_copied m K _ 1 (7, 1) (by decide +kernel) (by decide +kernel) (by decide +kernel) (by rfl) (by rfl) ?_
  refine st_tload m K _ 1 (by decide +kernel) (by rfl) fun _ => ?_
  refine st_store m K _ 1 (0, 1) (by decide +kernel) (by rfl) (by rfl) ?_
  refine st_copy m K _ 1 (0, 1) (by decide +kernel) (by decide +kernel) (by rfl) (out_slice_eq _ (off3_eq c).1.2) (by rfl) ?_
  refine st_recv m K _ 2 (by decide +kernel) (by decide +kernel) (by decide +kernel) (by rfl) (by rfl) ?_
  refine st_load m K _ (1, 0) 0 (by decide +kernel) (by rfl) (by rfl) ?_
  exact st_done _ next

theorem part11 {v10 v115 : BitVec 32} {C : sProp 𝕄} {Q : (FVec F S256x1024 .f32) → sProp 𝕄} (next : iprop(St m K c s11 ∗ C) ⊢ Q (resP m c (1, 1))) :
    iprop(St m K c s10 ∗ C) ⊢ WP c (atArgs (k0_part11 (F := F)) c v10 (k0_pay1 (sx m c) (sw m c)) (k0_pay2 (ws m c)) v115 (resP m c (1, 0))) Q := by
  unfold atArgs
  rw [k0_part11_eq_skeleton]
  unfold k0_part11_skel
  simp only [Prog.lift, Prog.bind_op, Prog.bind_ret, Prog.pure_eq_ret]
  refine st_copied m K _ 2 (2, 0) (by decide +kernel) (by decide +kernel) (by decide +kernel) (by rfl) (by rfl) ?_
  refine st_tload m K _ 2 (by decide +kernel) (by rfl) fun _ => ?_
  refine st_store m K _ 2 (1, 0) (by decide +kernel) (by rfl) (by rfl) ?_
  refine st_copy m K _ 2 (1, 0) (by decide +kernel) (by decide +kernel) (by rfl) (out_slice_eq _ (off3_eq c).2.1.1) (by rfl) ?_
  refine st_recv m K _ 3 (by decide +kernel) (by decide +kernel) (by decide +kernel) (by rfl) (by rfl) ?_
  refine st_load m K _ (1, 1) 0 (by decide +kernel) (by rfl) (by rfl) ?_
  exact st_done _ next

theorem part12 {v7 v12 v115 : BitVec 32} {C : sProp 𝕄} {Q : PUnit → sProp 𝕄} (next : iprop(St m K c s12 ∗ C) ⊢ Q ⟨⟩) :
    iprop(St m K c s11 ∗ C) ⊢ WP c (atArgs (k0_part12 (F := F)) c v7 v12 v115 (resP m c (1, 1))) Q := by
  unfold atArgs
  rw [k0_part12_eq_skeleton]
  unfold k0_part12_skel
  simp only [Prog.lift, Prog.bind_op, Prog.bind_ret, Prog.pure_eq_ret]
  refine st_copied m K _ 3 (0, 0) (by decide +kernel) (by decide +kernel) (by decide +kernel) (by rfl) (by rfl) ?_
  refine st_tload m K _ 3 (by decide +kernel) (by rfl) fun _ => ?_
  refine st_store m K _ 3 (1, 1) (by decide +kernel) (by rfl) (by rfl) ?_
  refine st_copy m K _ 3 (1, 1) (by decide +kernel) (by decide +kernel) (by rfl) (out_slice_eq _ (off3_eq c).2.1.2) (by rfl) ?_
  refine st_recv m K _ 8 (by decide +kernel) (by decide +kernel) (by decide +kernel) (by rfl) (by rfl) ?_
  refine st_send m K _ 12 (by decide +kernel) (by decide +kernel) (by decide +kernel) (dev16_eq c) (by rfl) (by rfl) (by rfl) (by rfl) ?_
  exact st_done _ next

theorem part13 {v7 v117 : BitVec 32} {C : sProp 𝕄} {Q : PUnit → sProp 𝕄} (next : iprop(St m K c s13 ∗ C) ⊢ Q ⟨⟩) :
    iprop(St m K c s12 ∗ C) ⊢ WP c (atArgs (k0_part13 (F := F)) c v7 (k0_pay1 (sx m c) (sw m c)) (k0_pay2 (ws m c)) v117) Q := by
  unfold atArgs
  rw [k0_part13_eq_skeleton]
  unfold k0_part13_skel
  simp only [Prog.lift, Prog.bind_op, Prog.bind_ret, Prog.pure_eq_ret]
  refine st_load m K _ (4, 0) 1 (by decide +kernel) (by rfl) (by rfl) ?_
  refine st_copied m K _ 0 (2, 1) (by decide +kernel) (by decide +kernel) (by decide +kernel) (by rfl) (by rfl) ?_
  refine st_tload m K _ 0 (by decide +kernel) (by rfl) fun _ => ?_
  refine st_store m K _ 0 (4, 0) (by decide +kernel) (by rfl) (by rfl) ?_
  refine st_copy m K _ 0 (4, 0) (by decide +kernel) (by decide +kernel) (by rfl) (out_slice_eq _ (off4_eq c).1.1) (by rfl) ?_
  refine st_recv m K _ 6 (by decide +kernel) (by decide +kernel) (by decide +kernel) (by rfl) (by rfl) ?_
  exact st_done _ next

theorem part14 {v7 v112 : BitVec 32} {C : sProp 𝕄} {Q : BitVec 32 → sProp 𝕄} (next : ∀ r, iprop(St m K c s14 ∗ C) ⊢ Q r) :
    iprop(St m K c s13 ∗ C) ⊢ WP c (atArgs (k0_part14 (F := F)) c v7 (k0_pay1 (sx m c) (sw m c)) (k0_pay2 (ws m c)) v112) Q := by
  unfold atArgs
  rw [k0_part14_eq_skeleton]
  unfold k0_part14_skel
  simp only [Prog.lift, Prog.bind_op, Prog.bind_ret, Prog.pure_eq_ret]
  refine st_load m K _ (3, 0) 0 (by decide +kernel) (by rfl) (by rfl) ?_
  refine st_copied m K _ 1 (0, 1) (by decide +kernel) (by decide +kernel) (by decide +kernel) (by rfl) (by rfl) ?_
  refine st_tload m K _ 1 (by decide +kernel) (by rfl) fun _ => ?_
  refine st_store m K _ 1 (3, 0) (by decide +kernel) (by rfl) (by rfl) ?_
  refine st_copy m K _ 1 (3, 0) (by decide +kernel) (by decide +kernel) (by rfl) (out_slice_eq _ (off3_eq c).2.2.1) (by rfl) ?_
  refine st_recv m K _ 7 (by decide +kernel) (by decide +kernel) (by decide +kernel) (by rfl) (by rfl) ?_
  exact st_done _ (next _)

theorem part15 {v12 v112 v1 : BitVec 32} {C : sProp 𝕄} {Q : PUnit → sProp 𝕄} (next : iprop(St m K c s15 ∗ C) ⊢ Q ⟨⟩) :
    iprop(St m K c s14 ∗ C) ⊢ WP c (atArgs (k0_part15 (F := F)) c v12 (k0_pay1 (sx m c) (sw m c)) (k0_pay2 (ws m c)) v112 v1) Q := by
  unfold atArgs
  rw [k0_part15_eq_skeleton]
  unfold k0_part15_skel
  simp only [Prog.lift, Prog.bind_op, Prog.bind_ret, Prog.pure_eq_ret]
  refine st_send m K _ 13 (by decide +kernel) (by decide +kernel) (by decide +kernel) (dev17_eq c) (by rfl) (by rfl) (by rfl) (by rfl) ?_
  refine st_load m K _ (3, 1) 1 (by decide +kernel) (by rfl) (by rfl) ?_
  refine st_copied m K _ 2 (1, 0) (by decide +kernel) (by decide +kernel) (by decide +kernel) (by rfl) (by rfl) ?_
  refine st_tload m K _ 2 (by decide +kernel) (by rfl) fun _ => ?_
  refine st_store m K _ 2 (3, 1) (by decide +kernel) (by rfl) (by rfl) ?_
  refine st_copy m K _ 2 (3, 1) (by decide +kernel) (by decide +kernel) (by rfl) (out_slice_eq _ (off3_eq c).2.2.2) (by rfl) ?_
  exact st_done _ next

theorem part16 {v12 v117 : BitVec 32} {C : sProp 𝕄} {Q : BitVec 32 → sProp 𝕄} (next : ∀ r, iprop(St m K c s16 ∗ C) ⊢ Q r) :
    iprop(St m K c s15 ∗ C) ⊢ WP c (atArgs (k0_part16 (F := F)) c v12 (k0_pay1 (sx m c) (sw m c)) (k0_pay2 (ws m c)) v117) Q := by
  unfold atArgs
  rw [k0_part16_eq_skeleton]
  unfold k0_part16_skel
  simp only [Prog.lift, Prog.bind_op, Prog.bind_ret, Prog.pure_eq_ret]
  refine st_recv m K _ 9 (by decide +kernel) (by decide +kernel) (by decide +kernel) (by rfl) (by rfl) ?_
  refine st_load m K _ (4, 1) 0 (by decide +kernel) (by rfl) (by rfl) ?_
  refine st_copied m K _ 3 (1, 1) (by decide +kernel) (by decide +kernel) (by decide +kernel) (by rfl) (by rfl) ?_
  refine st_tload m K _ 3 (by decide +kernel) (by rfl) fun _ => ?_
  refine st_store m K _ 3 (4, 1) (by decide +kernel) (by rfl) (by rfl) ?_
  refine st_copy m K _ 3 (4, 1) (by decide +kernel) (by decide +kernel) (by rfl) (out_slice_eq _ (off4_eq c).1.2) (by rfl) ?_
  exact st_done _ (next _)

theorem part17 {v10 v119 v1 : BitVec 32} {C : sProp 𝕄} {Q : BitVec 32 → sProp 𝕄} (next : ∀ r, iprop(St m K c s17 ∗ C) ⊢ Q r) :
    iprop(St m K c s16 ∗ C) ⊢ WP c (atArgs (k0_part17 (F := F)) c v10 (k0_pay1 (sx m c) (sw m c)) (k0_pay2 (ws m c)) v119 v1) Q := by
  unfold atArgs
  rw [k0_part17_eq_skeleton]
  unfold k0_part17_skel
  simp only [Prog.lift, Prog.bind_op, Prog.bind_ret, Prog.pure_eq_ret]
  refine st_recv m K _ 10 (by decide +kernel) (by decide +kernel) (by decide +kernel) (by rfl) (by rfl) ?_
  refine st_load m K _ (5, 0) 0 (by decide +kernel) (by rfl) (by rfl) ?_
  refine st_copied m K _ 0 (4, 0) (by decide +kernel) (by decide +kernel) (by decide +kernel) (by rfl) (by rfl) ?_
  refine st_tload m K _ 0 (by decide +kernel) (by rfl) fun _ => ?_
  refine st_store m K _ 0 (5, 0) (by decide +kernel) (by rfl) (by rfl) ?_
  refine st_copy m K _ 0 (5, 0) (by decide +kernel) (by decide +kernel) (by rfl) (out_slice_eq _ (off4_eq c).2.1.1) (by rfl) ?_
  exact st_done _ (next _)

theorem part18 {v7 v119 v484 : BitVec 32} {C : sProp 𝕄} {Q : (Σ' (_ : BitVec 32), BitVec 32) → sProp 𝕄} (next : ∀ r, iprop(St m K c s18 ∗ C) ⊢ Q r) :
    iprop(St m K c s17 ∗ C) ⊢ WP c (atArgs (k0_part18 (F := F)) c v7 (k0_pay1 (sx m c) (sw m c)) (k0_pay2 (ws m c)) v119 v484) Q := by
  unfold atArgs
  rw [k0_part18_eq_skeleton]
  unfold k0_part18_skel
  simp only [Prog.lift, Prog.bind_op, Prog.bind_ret, Prog.pure_eq_ret]
  refine st_recv m K _ 11 (by decide +kernel) (by decide +kernel) (by decide +kernel) (by rfl) (by rfl) ?_
  refine st_load m K _ (5, 1) 0 (by decide +kernel) (by rfl) (by rfl) ?_
  refine st_copied m K _ 1 (3, 0) (by decide +kernel) (by decide +kernel) (by decide +kernel) (by rfl) (by rfl) ?_
  refine st_tload m K _ 1 (by decide +kernel) (by rfl) fun _ => ?_
  refine st_store m K _ 1 (5, 1) (by decide +kernel) (by rfl) (by rfl) ?_
  refine st_copy m K _ 1 (5, 1) (by decide +kernel) (by decide +kernel) (by rfl) (out_slice_eq _ (off4_eq c).2.1.2) (by rfl) ?_
  exact st_done _ (next _)

theorem part19 {v12 v121 v512 v0 : BitVec 32} {C : sProp 𝕄} {Q : PUnit → sProp 𝕄} (next : iprop(St m K c s19 ∗ C) ⊢ Q ⟨⟩) :
    iprop(St m K c s18 ∗ C) ⊢ WP c (atArgs (k0_part19 (F := F)) c v12 (k0_pay1 (sx m c) (sw m c)) (k0_pay2 (ws m c)) v121 v512 v0) Q := by
  unfold atArgs
  rw [k0_part19_eq_skeleton]
  unfold k0_part19_skel
  simp only [Prog.lift, Prog.bind_op, Prog.bind_ret, Prog.pure_eq_ret]
  refine st_recv m K _ 12 (by decide +kernel) (by decide +kernel) (by decide +kernel) (by rfl) (by rfl) ?_
  refine st_load m K _ (6, 0) 0 (by decide +kernel) (by rfl) (by rfl) ?_
  refine st_copied m K _ 2 (3, 1) (by decide +kernel) (by decide +kernel) (by decide +kernel) (by rfl) (by rfl) ?_
  refine st_tload m K _ 2 (by decide +kernel) (by rfl) fun _ => ?_
  refine st_store m K _ 2 (6, 0) (by decide +kernel) (by rfl) (by rfl) ?_
  refine st_copy m K _ 2 (6, 0) (by decide +kernel) (by decide +kernel) (by rfl) (out_slice_eq _ (off4_eq c).2.2.1) (by rfl) ?_
  exact st_done _ next

theorem part20 {v121 : BitVec 32} {C : sProp 𝕄} {Q : PUnit → sProp 𝕄} (next : iprop(St m K c s20 ∗ C) ⊢ Q ⟨⟩) :
    iprop(St m K c s19 ∗ C) ⊢ WP c (atArgs (k0_part20 (F := F)) c (k0_pay1 (sx m c) (sw m c)) (k0_pay2 (ws m c)) v121) Q := by
  unfold atArgs
  rw [k0_part20_eq_skeleton]
  unfold k0_part20_skel
  simp only [Prog.lift, Prog.bind_op, Prog.bind_ret, Prog.pure_eq_ret]
  refine st_recv m K _ 13 (by decide +kernel) (by decide +kernel) (by decide +kernel) (by rfl) (by rfl) ?_
  refine st_load m K _ (6, 1) 0 (by decide +kernel) (by rfl) (by rfl) ?_
  refine st_copied m K _ 3 (4, 1) (by decide +kernel) (by decide +kernel) (by decide +kernel) (by rfl) (by rfl) ?_
  refine st_tload m K _ 3 (by decide +kernel) (by rfl) fun _ => ?_
  refine st_store m K _ 3 (6, 1) (by decide +kernel) (by rfl) (by rfl) ?_
  refine st_copy m K _ 3 (6, 1) (by decide +kernel) (by decide +kernel) (by rfl) (out_slice_eq _ (off4_eq c).2.2.2) (by rfl) ?_
  exact st_done _ next

theorem part21 {C : sProp 𝕄} {Q : PUnit → sProp 𝕄} (next : iprop(St m K c s21 ∗ C) ⊢ Q ⟨⟩) :
    iprop(St m K c s20 ∗ C) ⊢ WP c (atArgs (k0_part21 (F := F))) Q := by
  unfold atArgs
  rw [k0_part21_eq_skeleton]
  unfold k0_part21_skel
  simp only [Prog.lift, Prog.bind_op, Prog.bind_ret, Prog.pure_eq_ret]
  refine st_sent m K _ 0 (by decide +kernel) (by decide +kernel) (by rfl) (by rfl) ?_
  refine st_sent m K _ 1 (by decide +kernel) (by decide +kernel) (by rfl) (by rfl) ?_
  refine st_sent m K _ 2 (by decide +kernel) (by decide +kernel) (by rfl) (by rfl) ?_
  refine st_sent m K _ 3 (by decide +kernel) (by decide +kernel) (by rfl) (by rfl) ?_
  refine st_sent m K _ 4 (by decide +kernel) (by decide +kernel) (by rfl) (by rfl) ?_
  exact st_done _ next

theorem part22 {C : sProp 𝕄} {Q : PUnit → sProp 𝕄} (next : iprop(St m K c s22 ∗ C) ⊢ Q ⟨⟩) :
    iprop(St m K c s21 ∗ C) ⊢ WP c (atArgs (k0_part22 (F := F))) Q := by
  unfold atArgs
  rw [k0_part22_eq_skeleton]
  unfold k0_part22_skel
  simp only [Prog.lift, Prog.bind_op, Prog.bind_ret, Prog.pure_eq_ret]
  refine st_sent m K _ 5 (by decide +kernel) (by decide +kernel) (by rfl) (by rfl) ?_
  refine st_sent m K _ 6 (by decide +kernel) (by decide +kernel) (by rfl) (by rfl) ?_
  refine st_sent m K _ 7 (by decide +kernel) (by decide +kernel) (by rfl) (by rfl) ?_
  refine st_sent m K _ 8 (by decide +kernel) (by decide +kernel) (by rfl) (by rfl) ?_
  refine st_sent m K _ 9 (by decide +kernel) (by decide +kernel) (by rfl) (by rfl) ?_
  exact st_done _ next

theorem part23 {C : sProp 𝕄} {Q : PUnit → sProp 𝕄} (next : iprop(St m K c s23 ∗ C) ⊢ Q ⟨⟩) :
    iprop(St m K c s22 ∗ C) ⊢ WP c (atArgs (k0_part23 (F := F)) c) Q := by
  unfold atArgs
  rw [k0_part23_eq_skeleton]
  unfold k0_part23_skel
  simp only [Prog.lift, Prog.bind_op, Prog.bind_ret, Prog.pure_eq_ret]
  refine st_sent m K _ 10 (by decide +kernel) (by decide +kernel) (by rfl) (by rfl) ?_
  refine st_sent m K _ 11 (by decide +kernel) (by decide +kernel) (by rfl) (by rfl) ?_
  refine st_sent m K _ 12 (by decide +kernel) (by decide +kernel) (by rfl) (by rfl) ?_
  refine st_sent m K _ 13 (by decide +kernel) (by decide +kernel) (by rfl) (by rfl) ?_
  refine st_copied m K _ 0 (5, 0) (by decide +kernel) (by decide +kernel) (by decide +kernel) (by rfl) (by rfl) ?_
  exact st_done _ next

end Cert.Gather

end
-- ==== Proof.Cuts.lean ====
/-
# Buffers cut into blocks, and blocks joined

A buffer of `x` is held by its two halves, the result tiles by the four tiles, the result by the sixteen half blocks of
rows: one lemma cuts and one joins, for any family of blocks that covers a memref without overlap.
-/
module

public import proofs.«01_k».proof.Proof.Sched

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any family of blocks -/

/-- Blocks cover a shape, no two of them overlapping. -/
structure Cuts {s : Shape} {B : Type} (r : B → Rect s) : Prop where
  apart : ∀ b b', b ≠ b' → ∀ y y', (r b).emb y ≠ (r b').emb y'
  cover : ∀ x, ∃ b y, (r b).emb y = x

section Any
variable (c : Dev nD) {sp : Space} {s : Shape} {e : EltTy} (v : Memref sig .tc sp s e) {B : Type} [Fintype B] [DecidableEq B] {r : B → Rect s}
  (h : Cuts r) (hr : ∀ b a, (r b).stride a = 1)

include h in
theorem cuts_disjoint (b b' : B) (hb : b ≠ b') : Disjoint (v.slice (r b) (hr b)).view.set (v.slice (r b') (hr b')).view.set := by
  rw [Finset.disjoint_left]
  intro i hi hi'
  obtain ⟨y, -, rfl⟩ := Finset.mem_map.mp hi
  obtain ⟨y', -, e⟩ := Finset.mem_map.mp hi'
  exact h.apart b b' hb y y' (v.view.emb.injective e).symm

include h in
theorem cuts_cover : (Finset.univ.biUnion fun b => (v.slice (r b) (hr b)).view.set) = v.view.set := by
  ext i
  rw [Finset.mem_biUnion]
  constructor
  · rintro ⟨b, -, hi⟩; exact View.set_slice_subset v.view (r b) hi
  · intro hi
    obtain ⟨x, -, rfl⟩ := Finset.mem_map.mp hi
    obtain ⟨b, y, rfl⟩ := h.cover x
    exact ⟨b, Finset.mem_univ _, Finset.mem_map.mpr ⟨y, Finset.mem_univ _, rfl⟩⟩

include h in
/-- Elements held at one contents are held block by block. -/
theorem cut_pointsTo (q : PosShare TreeShare) (f : Buf (Elt F) (v.view.loc (c : Thread nD τ))) :
    (v.view.loc (c : Thread nD τ) ↦[v.view.set]{q} f : sProp 𝕄)
      = bigSep Finset.univ fun b => v.view.loc (c : Thread nD τ) ↦[(v.slice (r b) (hr b)).view.set]{q} f := by
  have e := pointsTo_biUnion (nD := nD) (τ := τ) (sig := sig) (Ix := Unit) (Val := Elt F) (Name := ℕ) (U := UU) (Lvl := ℕ) (ℓ := v.view.loc (c : Thread nD τ)) (q := q) (f := f)
    Finset.univ (fun b => (v.slice (r b) (hr b)).view.set) (fun b _ b' _ hb => cuts_disjoint v h hr b b' hb)
  rw [cuts_cover v h hr] at e
  exact e

include h in
/-- A memref held at any contents is held so block by block; -/
theorem cut_any : (heldAny c v : sProp 𝕄) ⊢ bigSep Finset.univ fun b => heldAny c (v.slice (r b) (hr b)) := by
  have one (f : Buf (Elt F) (v.view.loc (c : Thread nD τ))) (b : B) :
      (v.view.loc (c : Thread nD τ) ↦[(v.slice (r b) (hr b)).view.set]{fullShare} f : sProp 𝕄) ⊢ heldAny c (v.slice (r b) (hr b)) := by
    unfold heldAny; iintro H; iexists f; iexact H
  have all (f : Buf (Elt F) (v.view.loc (c : Thread nD τ))) :
      (v.view.loc (c : Thread nD τ) ↦[v.view.set]{fullShare} f : sProp 𝕄) ⊢ bigSep Finset.univ fun b => heldAny c (v.slice (r b) (hr b)) :=
    (Entails.of_eq (cut_pointsTo c v h hr fullShare f)).trans (bigSep_mono fun b _ => one f b)
  iintro H
  unfold heldAny
  icases H with ⟨%f, H⟩
  iapply (all f) $$ H

include h in
/-- held at known contents, each block at its own; -/
theorem cut_held (q : PosShare TreeShare) (g : s.Idx → Elt F e) :
    (held c v q g : sProp 𝕄) ⊢ bigSep Finset.univ fun b => held c (v.slice (r b) (hr b)) q fun y => g ((r b).emb y) := by
  unfold held
  rw [cut_pointsTo c v h hr]
  exact bigSep_mono fun b _ => held_of_read c (v.slice (r b) (hr b)) (funext fun y => congrFun (View.read_rep v.view g) ((r b).emb y))

include h in
/-- and back: blocks at any contents join, -/
theorem join_any [Nonempty B] : (bigSep Finset.univ fun b => heldAny c (v.slice (r b) (hr b)) : sProp 𝕄) ⊢ heldAny c v := by
  unfold heldAny
  have hv : ∀ b : B, (v.slice (r b) (hr b)).view.loc (c : Thread nD τ) = v.view.loc (c : Thread nD τ) := fun _ => rfl
  have ne : Nonempty (Buf (Elt F) (v.view.loc (c : Thread nD τ))) := ⟨v.view.rep fun _ => Classical.arbitrary _⟩
  refine (Idealize.SL.BI.bigSep_exists_pi Finset.univ (fun b (f : Buf (Elt F) (v.view.loc (c : Thread nD τ))) =>
    (v.view.loc (c : Thread nD τ) ↦[(v.slice (r b) (hr b)).view.set]{fullShare} f : sProp 𝕄))).trans ?_
  iintro ⟨%fs, H⟩
  ihave H := (pointsTo_biUnion_join Finset.univ (fun b => (v.slice (r b) (hr b)).view.set) fs (fs (Classical.arbitrary B))
    (fun b _ b' _ hb => cuts_disjoint v h hr b b' hb)) $$ H
  icases H with ⟨%g, -, H⟩
  rw [cuts_cover v h hr]
  iexists g; iexact H

include h in
/-- and blocks at the parts of one contents join at that contents. -/
theorem join_held [Nonempty B] (q : PosShare TreeShare) (G : s.Idx → Elt F e) (gs : (b : B) → (r b).shape.Idx → Elt F e)
    (hG : ∀ b y, G ((r b).emb y) = gs b y) :
    (bigSep Finset.univ fun b => held c (v.slice (r b) (hr b)) q (gs b) : sProp 𝕄) ⊢ held c v q G := by
  let fs (b : B) : Buf (Elt F) (v.view.loc (c : Thread nD τ)) := (v.slice (r b) (hr b)).view.rep (gs b)
  have hj := pointsTo_biUnion_join (nD := nD) (τ := τ) (sig := sig) (Ix := Unit) (Val := Elt F) (Name := ℕ) (U := UU) (Lvl := ℕ) (ℓ := v.view.loc (c : Thread nD τ)) (q := q)
    Finset.univ (fun b => (v.slice (r b) (hr b)).view.set) fs (v.view.rep G) (fun b _ b' _ hb => cuts_disjoint v h hr b b' hb)
  rw [cuts_cover v h hr] at hj
  refine (show (bigSep Finset.univ fun b => held c (v.slice (r b) (hr b)) q (gs b) : sProp 𝕄) ⊢ _ from hj).trans ?_
  unfold held
  have fin (g : Buf (Elt F) (v.view.loc (c : Thread nD τ)))
      (hg : ∀ b ∈ Finset.univ, ∀ i ∈ (v.slice (r b) (hr b)).view.set, g i = fs b i) : v.view.read (Elt F) g = G := ?_
  · iintro ⟨%g, %hg, H⟩
    have h1 : (v.view.loc (c : Thread nD τ) ↦[v.view.set]{q} g : sProp 𝕄) ⊢ v.view.loc (c : Thread nD τ) ↦[v.view.set]{q} v.view.rep G := held_of_read c v (fin g hg)
    iapply h1 $$ H
  funext x
  obtain ⟨b, y, rfl⟩ := h.cover x
  rw [hG]
  refine Eq.trans ?_ (congrFun (View.read_rep (v.slice (r b) (hr b)).view (gs b)) y)
  have e := hg b (Finset.mem_univ _) _ (Finset.mem_map.mpr ⟨y, Finset.mem_univ _, rfl⟩)
  exact congrArg (fun z => _root_.cast _ z) e

end Any

/-! ## The three families -/

/-- The two halves of 512 rows. -/
abbrev halfR (h : Fin 2) : Rect S512x4096 := Rect.unit (s := S512x4096) (hOff h) S256x4096.size (hOff_inb h)
theorem halves : Cuts halfR where
  apart h h' hne y y' e := by
    have e0 : 256 * h.val + 1 * (y 0).val = 256 * h'.val + 1 * (y' 0).val := congrArg (fun x : S512x4096.Idx => (x 0).val) e
    have l : (y 0).val < 256 := (y 0).isLt
    have l' : (y' 0).val < 256 := (y' 0).isLt
    exact hne (Fin.ext (by omega))
  cover x := by
    have l : (x 0).val < 512 := (x 0).isLt
    refine ⟨⟨(x 0).val / 256, by omega⟩, fun a => match a with | ⟨0, _⟩ => ⟨(x 0).val % 256, Nat.mod_lt _ (by decide)⟩ | ⟨1, _⟩ => x 1, ?_⟩
    funext a
    apply Fin.ext
    match a with
    | ⟨0, _⟩ => show 256 * ((x 0).val / 256) + 1 * ((x 0).val % 256) = (x 0).val; omega
    | ⟨1, _⟩ => show 0 + 1 * (x 1).val = (x 1).val; omega

/-- The four result tiles. -/
theorem tiles : Cuts tileR where
  apart h h' hne y y' e := by
    have e0 : h.val + 1 * (y 0).val = h'.val + 1 * (y' 0).val := congrArg (fun x : S4x256x1024.Idx => (x 0).val) e
    have l : (y 0).val < 1 := (y 0).isLt
    have l' : (y' 0).val < 1 := (y' 0).isLt
    exact hne (Fin.ext (by omega))
  cover x := by
    have l : (x 0).val < 4 := (x 0).isLt
    refine ⟨⟨(x 0).val, l⟩, fun a => match a with | ⟨0, _⟩ => ⟨0, Nat.one_pos⟩ | ⟨1, _⟩ => x 1 | ⟨2, _⟩ => x 2, ?_⟩
    funext a
    apply Fin.ext
    match a with
    | ⟨0, _⟩ => show (x 0).val + 1 * 0 = (x 0).val; omega
    | ⟨1, _⟩ => show 0 + 1 * (x 1).val = (x 1).val; omega
    | ⟨2, _⟩ => show 0 + 1 * (x 2).val = (x 2).val; omega

/-- The half blocks of result rows, named by the buffer whose rows of `x` they come from. -/
abbrev outR (c : Dev nD) (p : Fin 8 × Fin 2) : Rect S4096x1024 :=
  Rect.unit (s := S4096x1024) (outOff (org p.1 c) p.2) S256x1024.size (outOff_inb (org p.1 c) p.2)
theorem outs (c : Dev nD) : Cuts (outR c) where
  apart p p' hne y y' e := by
    have e0 : 512 * (org p.1 c).val + 256 * p.2.val + 1 * (y 0).val = 512 * (org p'.1 c).val + 256 * p'.2.val + 1 * (y' 0).val :=
      congrArg (fun x : S4096x1024.Idx => (x 0).val) e
    have l : (y 0).val < 256 := (y 0).isLt
    have l' : (y' 0).val < 256 := (y' 0).isLt
    have l1 := p.2.isLt
    have l2 := p'.2.isLt
    exact hne (Prod.ext ((org_bijective c).1 (Fin.ext (show (org p.1 c).val = (org p'.1 c).val by omega))) (Fin.ext (by omega)))
  cover x := by
    have l : (x 0).val < 4096 := (x 0).isLt
    obtain ⟨b, hb⟩ := (org_bijective c).2 (⟨(x 0).val / 512, by show _ < 8; omega⟩ : Dev nD)
    refine ⟨(b, ⟨(x 0).val % 512 / 256, by omega⟩), fun a => match a with | ⟨0, _⟩ => ⟨(x 0).val % 256, Nat.mod_lt _ (by decide)⟩ | ⟨1, _⟩ => x 1, ?_⟩
    have hv : (org b c).val = (x 0).val / 512 := congrArg Fin.val hb
    funext a
    apply Fin.ext
    match a with
    | ⟨0, _⟩ =>
      show 512 * (org b c).val + 256 * ((x 0).val % 512 / 256) + 1 * ((x 0).val % 256) = (x 0).val
      rw [hv]; omega
    | ⟨1, _⟩ => show 0 + 1 * (x 1).val = (x 1).val; omega

end Cert.Gather

end
-- ==== Proof.Head.lean ====
/-
# The first and the third part of the body

The first part starts the copies of the device's own rows and columns, shakes hands with the three neighbours and awaits
the rows: from there on the table of `State.lean` tells what the device holds. The third part awaits the columns and
reads the two scales.
-/
module

public import proofs.«01_k».proof.Proof.Parts
public import proofs.«01_k».proof.Proof.Cuts

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Option (Bool × Fin 14) → ℕ) (c : Dev nD)

/-! ## What a device starts with -/

/-- The device's rows of `x` and columns of `w`, as the launch finds them. -/
def xPts : sProp 𝕄 := xA.view.loc (c : Thread nD τ) ↦[xA.view.set]{fullShare} m ((c : Thread nD τ).loc main_arg0)
def wPts : sProp 𝕄 := wA.view.loc (c : Thread nD τ) ↦[wA.view.set]{fullShare} m ((c : Thread nD τ).loc main_arg1)

/-- The cells: what each transfer needs at either end, the three neighbours' barriers and its own. -/
def Ghost : sProp 𝕄 :=
  iprop((bigSep Finset.univ fun t => SendKit m K c t) ∗ (bigSep Finset.univ fun t => RecvKit m K c t)
    ∗ (bigSep Finset.univ fun k => BarKit m K c k)
    ∗ (cellInv ER (sched m) (K (c, none)) (barCell c) ∗ atPos ER (barCell c) 0 ∅ 0 ∗ cred (tallyAt (barCell c) () 3)) ∗ levAts L lv)
/-- The buffers and local semaphores. -/
def Room : sProp 𝕄 :=
  iprop((bigSep Finset.univ fun k => Landing (F := F) c k) ∗ heldAny c (bufM 7) ∗ heldAny c wM ∗ (bigSep Finset.univ fun i => tileP m c i .free)
    ∗ (bigSep Finset.univ fun p => outP m c p .old) ∗ semVal ((c : Thread nD τ), .dma xS) 0 ∗ semVal ((c : Thread nD τ), .dma wS) 0)
/-- All of it. -/
def Start : sProp 𝕄 := iprop(Ghost m K c ∗ Room m c ∗ xPts m c ∗ wPts m c ∗ OwesB c [1, 0, 2])

/-- The copy of the columns under way. -/
def WFly : sProp 𝕄 := Copying c wS wM.view.dmaCredit iprop(held c wM fullShare (ws m c) ∗ wPts m c)
/-- What is done with once the rows are there. -/
def Early : sProp 𝕄 := iprop(Done m K c none ∗ semVal ((c : Thread nD τ), .dma xS) 0 ∗ xPts m c)

/-- A family over the transfers, direction by direction. -/
theorem by_dir (Φ : Fin 14 → sProp 𝕄) :
    (bigSep Finset.univ fun k => bigSep (Finset.univ.filter fun t => dir t = k) Φ) = bigSep Finset.univ Φ := by
  rw [← Idealize.SL.BI.bigSep_biUnion_eq Finset.univ (fun k => Finset.univ.filter fun t => dir t = k) Φ
    (fun a _ b _ h => Finset.disjoint_left.mpr fun t ha hb => h (by rw [← (Finset.mem_filter.mp ha).2, (Finset.mem_filter.mp hb).2]))]
  congr 1
  exact Finset.eq_univ_of_forall fun t => Finset.mem_biUnion.mpr ⟨dir t, Finset.mem_univ _, Finset.mem_filter.mpr ⟨Finset.mem_univ _, rfl⟩⟩

theorem barPay_all : (bigSep Finset.univ fun k => barPay (F := F) c k) = bigSep Finset.univ fun t => heldAny (F := F) (tgt t c) (dstM t) := by
  rw [← by_dir]
  refine bigSep_congr fun k _ => ?_
  unfold barPay
  refine bigSep_congr fun t ht => ?_
  rw [show nb k c = tgt t c by unfold tgt; rw [(Finset.mem_filter.mp ht).2]]

theorem fin3 (Φ : Fin 3 → sProp 𝕄) : bigSep Finset.univ Φ = iprop(Φ 0 ∗ Φ 1 ∗ Φ 2) := bigSep_univ_eq_bigSepL [0, 1, 2] (by decide) (by decide) Φ

/-- The device's own rows, held by halves. -/
theorem hold_start : (held c (bufM 7) fullShare (xs m c) : sProp 𝕄) ⊢ bigSep Finset.univ fun p : Piece => holdP m c p (s1.hold p) := by
  have rest : (bigSep (Finset.univ.erase (7 : Fin 8)) fun b => bigSep Finset.univ fun h : Fin 2 => holdP m c (b, h) (s1.hold (b, h)) : sProp 𝕄) = iprop(emp) := by
    refine (bigSep_congr fun b hb => ?_).trans (bigSep_emp_const _)
    refine (bigSep_congr fun h _ => ?_).trans (bigSep_emp_const _)
    rw [show s1.hold (b, h) = none from if_neg (Finset.ne_of_mem_erase hb)]
    rfl
  rw [bigSep_univ_prod, bigSep_univ_at _ (7 : Fin 8), rest]
  iintro H
  ihave H := (cut_held c (bufM 7) halves (fun _ _ => rfl) fullShare (xs m c)) $$ H
  isplitl; · iexact H
  iempintro

theorem part1 {C : sProp 𝕄} {Q : (Σ' (d0 : Dev nD) (v2 : BitVec 32) (v3 : BitVec 32) (v4 : BitVec 32) (v7 : BitVec 32) (v10 : BitVec 32), BitVec 32) → sProp 𝕄}
    (next : ∀ v2 v3 v4 v7 v10 v12, iprop(St m K c s1 ∗ WFly m c ∗ C ∗ Early m K c) ⊢ Q ⟨c, v2, v3, v4, v7, v10, v12⟩) :
    iprop(Start m K c ∗ C) ⊢ WP c (atArgs (k0_part1 (F := F))) Q := by
  unfold atArgs
  rw [k0_part1_eq_skeleton]
  unfold k0_part1_skel
  simp only [Prog.lift, Prog.bind_op, Prog.bind_ret, Prog.pure_eq_ret, semSignalWord, semWaitWord, wp_deviceId]
  unfold Start Ghost Room
  rw [fin3, fin3]
  iintro ⟨⟨⟨Hsnd, Hrcv, ⟨B0, B1, B2⟩, Hbar, #Hl⟩, ⟨⟨L0, L1, L2⟩, Hb7, Hwm, Ht, Ho, Hx, Hw⟩, Hxp, Hwp, HO⟩, HC⟩
  unfold xPts wPts
  iapply (step_copy c xA (bufM 7) xS (by decide) (m ((c : Thread nD τ).loc main_arg0)) (xs m c) rfl (xPts m c) (by unfold xPts; exact BI.Entails.refl _)) $$ [Hxp Hb7 Hx]
  · isplitl [Hxp]; · iexact Hxp
    isplitl [Hb7]; · iexact Hb7
    iexact Hx
  iintro Hx
  iapply (step_copy c wA wM wS (by decide) (m ((c : Thread nD τ).loc main_arg1)) (ws m c) rfl (wPts m c) (by unfold wPts; exact BI.Entails.refl _)) $$ [Hwp Hwm Hw]
  · isplitl [Hwp]; · iexact Hwp
    isplitl [Hwm]; · iexact Hwm
    iexact Hw
  iintro Hw
  iapply (step_signal m K c 1 [0, 2] (dev1_eq c)) $$ [B1 L0 HO]
  · isplitl [B1]; · iexact B1
    isplitl [L0]; · iexact L0
    iexact HO
  iintro HO
  iapply (step_signal m K c 0 [2] (dev2_eq c)) $$ [B0 L1 HO]
  · isplitl [B0]; · iexact B0
    isplitl [L1]; · iexact L1
    iexact HO
  iintro HO
  iapply (step_signal m K c 2 [] (dev3_eq c)) $$ [B2 L2 HO]
  · isplitl [B2]; · iexact B2
    isplitl [L2]; · iexact L2
    iexact HO
  iintro HO
  iapply (step_barrier m K c) $$ [Hbar HO]
  · isplitl [Hbar]; · iexact Hbar
    isplitl [HO]; · iexact HO
    iexact Hl
  rw [barPay_all]
  iintro ⟨Hd, Hpay, HO⟩
  iapply (step_copied c sendOrder (q := xS) rfl rfl (by decide)) $$ [Hx HO]
  · isplitl [Hx]; · iexact Hx
    isplitl [HO]; · iexact HO
    iexact Hl
  iintro ⟨⟨Hb7, Hxp⟩, Hx, HO⟩
  have fin (v2 v3 v4 v7 v10 v12 : BitVec 32) : iprop(St m K c s1 ∗ WFly m c ∗ C ∗ Early m K c) ⊢ WP c (.ret ⟨c, v2, v3, v4, v7, v10, v12⟩) Q :=
    st_done _ (next v2 v3 v4 v7 v10 v12)
  iapply (fin _ _ _ _ _ _)
  unfold St Early WFly
  isplitl [Hsnd Hpay Hrcv Hb7 Ht Ho HO]
  · isplitl [Hsnd Hpay]
    · iapply (show iprop((bigSep Finset.univ fun t => SendKit m K c t) ∗ bigSep Finset.univ fun t => heldAny (F := F) (tgt t c) (dstM t))
        ⊢ (bigSep Finset.univ fun t => sndP m K c t (s1.snd t) : sProp 𝕄) from Entails.of_eq (bigSep_sep' _ _ _).symm)
      isplitl [Hsnd]; · iexact Hsnd
      iexact Hpay
    isplitl [Hrcv]; · iexact Hrcv
    isplitl [Hb7]; · iapply (hold_start m c) $$ Hb7
    isplitl [Ht]; · iexact Ht
    isplitl [Ho]; · iexact Ho
    isplitl [HO]; · iexact HO
    iexact Hl
  isplitl [Hw]; · iexact Hw
  isplitl [HC]; · iexact HC
  isplitl [Hd]; · iexact Hd
  isplitl [Hx]; · iexact Hx
  iexact Hxp

/-! ## The columns and the scales -/

/-- The two scales, staged. -/
abbrev Scales (fx : Buf (Elt F) (sxM.view.loc (c : Thread nD τ))) (fw : Buf (Elt F) (swM.view.loc (c : Thread nD τ))) : sProp 𝕄 :=
  iprop((sxM.view.loc (c : Thread nD τ) ↦{fullShare} fx) ∗ (swM.view.loc (c : Thread nD τ) ↦{fullShare} fw))
/-- The columns awaited. -/
abbrev WDone : sProp 𝕄 := iprop(held c wM fullShare (ws m c) ∗ wPts m c ∗ semVal ((c : Thread nD τ), .dma wS) 0)

/-- The columns are awaited. -/
theorem st_columns (s : State) {q' : DmaSem sig} (hq : q' = wS) {sh sh' : Shape} {e e' : EltTy} {sp sp' : Space} {κ' : Kind}
    {srcw : Memref sig .tc sp sh e} {dstw : Memref sig κ' sp' sh' e'} {hsrc : srcw.view.WordExact} {hdst : dstw.view.WordExact}
    (hN : dstw.view.dmaCredit = wM.view.dmaCredit) (hl : ∀ t' ∈ s.todo, lvS (.dma wS) < lvS (.dma (recvS t')))
    {α : Type} {C : sProp 𝕄} {Q : α → sProp 𝕄} {k : PUnit → Prog (TpuEff nD τ sig (Elt F) Λ₀ .tc) α}
    (next : iprop(St m K c s ∗ WDone m c ∗ C) ⊢ WP c (k ⟨⟩) Q) :
    iprop(St m K c s ∗ WFly m c ∗ C) ⊢ WP c (.op (.waitDma2 q' srcw dstw hsrc hdst) k) Q := by
  unfold St WFly
  iintro ⟨⟨Hs, Hr, Hh, Ht, Ho, HO, #Hl⟩, Hw, HC⟩
  iapply (step_copied c s.todo hq hN hl) $$ [Hw HO]
  · isplitl [Hw]; · iexact Hw
    isplitl [HO]; · iexact HO
    iexact Hl
  iintro ⟨⟨Hw, Hp⟩, Hv, HO⟩
  iapply next
  unfold St
  isplitr [Hw Hp Hv HC]
  · isplitl [Hs]; · iexact Hs
    isplitl [Hr]; · iexact Hr
    isplitl [Hh]; · iexact Hh
    isplitl [Ht]; · iexact Ht
    isplitl [Ho]; · iexact Ho
    isplitl [HO]; · iexact HO
    iexact Hl
  isplitr [HC]
  · isplitl [Hw]; · iexact Hw
    isplitl [Hp]; · iexact Hp
    iexact Hv
  iexact HC

/-- A scale is read out of whatever holds it. -/
theorem scale_read {b : Memref sig .tc .smem S1 .f32} {f : Buf (Elt F) (b.view.loc (c : Thread nD τ))}
    {inb : ∀ a, (![0] : Fin 1 → ℕ) a + S1.size a ≤ S1.size a}
    {hw : (b.access (Rect.unit (s := S1) ![0] S1.size inb)).Loads} {x : (Rect.unit (s := S1) ![0] S1.size inb).shape.Idx}
    (hb : b.view.set = Finset.univ) {v : Elt F .f32} (hv : b.view.read (Elt F) f i0 = v) {R : sProp 𝕄}
    (hR : R ⊢ iprop((b.view.loc (c : Thread nD τ) ↦{fullShare} f) ∗ ((b.view.loc (c : Thread nD τ) ↦{fullShare} f) -∗ R)))
    {α : Type} {Q : α → sProp 𝕄} {k : Elt F .f32 → Prog (TpuEff nD τ sig (Elt F) Λ₀ .tc) α} (next : R ⊢ WP c (k v) Q) :
    R ⊢ WP c (smemLoadElt b (Rect.unit (s := S1) ![0] S1.size inb) hw x .ret >>= k) Q := by
  show R ⊢ WP c (smemLoadElt b (Rect.unit (s := S1) ![0] S1.size inb) hw x k) Q
  subst hv
  iintro H
  ihave ⟨H, B⟩ := hR $$ H
  iapply (step_scale c hb) $$ H
  iintro H
  iapply next
  iapply B $$ H

/-- The columns are read out of whatever holds them. -/
theorem columns_read {g : S4096x1024.Idx → Elt F .i8} {inb : ∀ a, (![0, 0] : Fin 2 → ℕ) a + S4096x1024.size a ≤ S4096x1024.size a}
    {hl : wM.view.LoadsAt (Rect.unit (s := S4096x1024) ![0, 0] S4096x1024.size inb).toLoadRect} {R : sProp 𝕄}
    (hR : R ⊢ iprop(held c wM fullShare g ∗ (held c wM fullShare g -∗ R)))
    {α : Type} {Q : α → sProp 𝕄} {k : (S4096x1024.Idx → Elt F .i8) → Prog (TpuEff nD τ sig (Elt F) Λ₀ .tc) α} (next : R ⊢ WP c (k g) Q) :
    R ⊢ WP c (.op (.load wM (Rect.unit (s := S4096x1024) ![0, 0] S4096x1024.size inb).toLoadRect hl) k) Q := by
  iintro H
  ihave ⟨H, B⟩ := hR $$ H
  iapply (step_loadW c) $$ H
  iintro H
  iapply next
  iapply B $$ H

theorem part3 {fx : Buf (Elt F) (sxM.view.loc (c : Thread nD τ))} {fw : Buf (Elt F) (swM.view.loc (c : Thread nD τ))}
    (hx : sxM.view.read (Elt F) fx i0 = sx m c) (hw : swM.view.read (Elt F) fw i0 = sw m c) {v2 v12 v52 : BitVec 32}
    {C : sProp 𝕄} {Q : (Σ' (v70 : F .f32) (v72 : FVec F S4096x1024 .bf16), BitVec 32) → sProp 𝕄}
    (next : ∀ v, iprop(St m K c s3 ∗ WDone m c ∗ Scales c fx fw ∗ C) ⊢ Q ⟨k0_pay1 (sx m c) (sw m c), k0_pay2 (ws m c), v⟩) :
    iprop(St m K c s2 ∗ WFly m c ∗ Scales c fx fw ∗ C) ⊢ WP c (atArgs (k0_part3 (F := F)) c v2 v12 v52) Q := by
  unfold atArgs
  rw [k0_part3_eq_skeleton]
  unfold k0_part3_skel
  simp only [Prog.lift, Prog.bind_op, Prog.bind_ret, Prog.pure_eq_ret, smemLoad]
  refine st_send m K _ 4 (by decide +kernel) (by decide +kernel) (by decide +kernel) (dev8_eq c) (by rfl) (by rfl) (by rfl) (by rfl) ?_
  refine st_send m K _ 5 (by decide +kernel) (by decide +kernel) (by decide +kernel) (dev9_eq c) (by rfl) (by rfl) (by rfl) (by rfl) ?_
  refine st_columns m K c _ (by rfl) (by rfl) (by decide +kernel) ?_
  refine scale_read c (View.set_whole _) hx (by
    iintro ⟨Hs, Hw, ⟨H, H'⟩, HC⟩
    isplitl [H]; · iexact H
    iintro H
    isplitl [Hs]; · iexact Hs
    isplitl [Hw]; · iexact Hw
    isplitr [HC]
    · isplitl [H]; · iexact H
      iexact H'
    iexact HC) ?_
  refine scale_read c (View.set_whole _) hw (by
    iintro ⟨Hs, Hw, ⟨H, H'⟩, HC⟩
    isplitl [H']; · iexact H'
    iintro H'
    isplitl [Hs]; · iexact Hs
    isplitl [Hw]; · iexact Hw
    isplitr [HC]
    · isplitl [H]; · iexact H
      iexact H'
    iexact HC) ?_
  refine columns_read c (g := ws m c) (by
    iintro ⟨Hs, ⟨Hw, Hp, Hv⟩, H, HC⟩
    isplitl [Hw]; · iexact Hw
    iintro Hw
    isplitl [Hs]; · iexact Hs
    isplitr [H HC]
    · isplitl [Hw]; · iexact Hw
      isplitl [Hp]; · iexact Hp
      iexact Hv
    isplitl [H]; · iexact H
    iexact HC) ?_
  refine st_load m K _ (7, 0) 3 (by decide +kernel) (by rfl) (by rfl) ?_
  refine st_tload m K _ 0 (by decide +kernel) (by rfl) fun _ => ?_
  refine st_store m K _ 0 (7, 0) (by decide +kernel) (by rfl) (by rfl) ?_
  exact st_done _ (next _)

end Cert.Gather

end
-- ==== Proof.Body.lean ====
/-
# The body, from the launch to its end

The parts in a row, and what a device holds when the last copy of a result tile has been awaited.
-/
module

public import proofs.«01_k».proof.Proof.Head

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Option (Bool × Fin 14) → ℕ) (c : Dev nD)

/-- The table at the end. -/
def s24 : State := ((s23.copied 1 (5, 1)).copied 2 (6, 0)).copied 3 (6, 1)

/-- A program in two parts. -/
theorem seq {P : sProp 𝕄} {α β : Type} {p : Prog (TpuEff nD τ sig (Elt F) Λ₀ .tc) α} {k : α → Prog (TpuEff nD τ sig (Elt F) Λ₀ .tc) β} {Q : β → sProp 𝕄}
    (h : P ⊢ WP c p fun a => WP c (k a) Q) : P ⊢ WP c (p >>= k) Q := by
  unfold WP; rw [wp_bind]; exact h

/-- The body is right from what a device starts with to the table at the end. -/
theorem body_steps {fx : Buf (Elt F) (sxM.view.loc (c : Thread nD τ))} {fw : Buf (Elt F) (swM.view.loc (c : Thread nD τ))}
    (hx : sxM.view.read (Elt F) fx i0 = sx m c) (hw : swM.view.read (Elt F) fw i0 = sw m c) {Q : PUnit → sProp 𝕄}
    (next : iprop(St m K c s24 ∗ WDone m c ∗ Scales c fx fw ∗ Early m K c) ⊢ Q ⟨⟩) :
    iprop(Start m K c ∗ Scales c fx fw) ⊢ WP c (atArgs (cc0_body (F := F))) Q := by
  unfold atArgs
  rw [cc0_body_eq_skeleton]
  unfold cc0_body_skel
  refine seq c (part1 m K c fun v2 v3 v4 v7 v10 v12 => ?_)
  refine seq c (part2 m K c fun _ => ?_)
  refine seq c (part3 m K c hx hw fun _ => ?_)
  refine seq c (part4 m K c fun _ => ?_)
  refine seq c (part5 m K c fun _ _ _ _ _ => ?_)
  refine seq c (part6 m K c ?_)
  refine seq c (part7 m K c fun _ => ?_)
  refine seq c (part8 m K c fun _ => ?_)
  refine seq c (part9 m K c ?_)
  refine seq c (part10 m K c ?_)
  refine seq c (part11 m K c ?_)
  refine seq c (part12 m K c ?_)
  refine seq c (part13 m K c ?_)
  refine seq c (part14 m K c fun _ => ?_)
  refine seq c (part15 m K c ?_)
  refine seq c (part16 m K c fun _ => ?_)
  refine seq c (part17 m K c fun _ => ?_)
  refine seq c (part18 m K c fun _ => ?_)
  refine seq c (part19 m K c ?_)
  refine seq c (part20 m K c ?_)
  refine seq c (part21 m K c ?_)
  refine seq c (part22 m K c ?_)
  refine seq c (part23 m K c ?_)
  simp only [Prog.lift, Prog.bind_op, Prog.bind_ret, Prog.pure_eq_ret]
  refine st_copied m K _ 1 (5, 1) (by decide +kernel) (by decide +kernel) (by decide +kernel) (by rfl) (by rfl) ?_
  refine st_copied m K _ 2 (6, 0) (by decide +kernel) (by decide +kernel) (by decide +kernel) (by rfl) (by rfl) ?_
  refine st_copied m K _ 3 (6, 1) (by decide +kernel) (by decide +kernel) (by decide +kernel) (by rfl) (by rfl) ?_
  exact st_done _ next

end Cert.Gather

end
-- ==== Proof.Exit.lean ====
/-
# What a device holds at the end

The table of the end is read back: every cell is closed, the borrowed shares rejoin, the halves, tiles and result rows
rejoin to the buffers they were cut from, and the result rows hold what the kernel computes.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Option (Bool × Fin 14) → ℕ) (c : Dev nD)

/-! ## The borrowed shares -/

/-- The half block transfer `t` borrows from, and how many transfers borrow from a half block in all. -/
def piece (t : Fin 14) : Piece := (srcB t, hf t)
def cnt (p : Piece) : ℕ := (Finset.univ.filter fun t => piece t = p).card

/-- The last of `n + 1` borrowers beside the first `n`. -/
theorem last_lent : ∀ (p : Piece) (n : Fin 3), n.val < cnt p → ∃ t : Fin 14, dep t = n.val ∧ piece t = p
    ∧ (Finset.univ.filter fun t => piece t = p ∧ dep t < n.val + 1) = insert t (Finset.univ.filter fun t => piece t = p ∧ dep t < n.val) := by
  decide +kernel
theorem cnt_le : ∀ p : Piece, cnt p ≤ 3 := by decide +kernel
theorem dep_lt : ∀ t : Fin 14, dep t < cnt (piece t) := by decide +kernel

/-- What the first `n` borrowers give back makes the share whole. -/
theorem rejoin (p : Piece) (g : S256x4096.Idx → Elt F .i8) : ∀ n, n ≤ cnt p →
    iprop(held c (halfM (bufM p.1) p.2) (kept n) g ∗ bigSep (Finset.univ.filter fun t => piece t = p ∧ dep t < n) fun t => held c (halfM (bufM p.1) p.2) (lent t) g)
      ⊢ (held c (halfM (bufM p.1) p.2) fullShare g : sProp 𝕄)
  | 0, _ => by iintro ⟨H, -⟩; iexact H
  | n + 1, h => by
    obtain ⟨t, hd, _, e⟩ := last_lent p ⟨n, by have := cnt_le p; omega⟩ h
    have split : (bigSep (insert t (Finset.univ.filter fun t => piece t = p ∧ dep t < n)) fun t => held c (halfM (bufM p.1) p.2) (lent t) g : sProp 𝕄)
      = iprop(held c (halfM (bufM p.1) p.2) (lent t) g ∗ bigSep (Finset.univ.filter fun t => piece t = p ∧ dep t < n) fun t => held c (halfM (bufM p.1) p.2) (lent t) g) :=
      bigSep_insert (by simp [hd])
    rw [show (Finset.univ.filter fun t => piece t = p ∧ dep t < n + 1) = _ from e]
    rw [show (bigSep (insert t (Finset.univ.filter fun t => piece t = p ∧ dep t < (⟨n, by have := cnt_le p; omega⟩ : Fin 3).val)) _ : sProp 𝕄) = _ from split]
    have hl : lent t = (kept n).right := by unfold lent; rw [hd]
    rw [hl]
    iintro ⟨H, Ht, HT⟩
    iapply (rejoin p g n (by omega))
    isplitr [HT]
    · iapply (held_join c (halfM (bufM p.1) p.2) (kept n) g)
      isplitl [H]; · iexact H
      iexact Ht
    · iexact HT

/-- A family over the transfers, half block by half block. -/
theorem by_piece (Φ : Fin 14 → sProp 𝕄) :
    bigSep Finset.univ Φ = bigSep Finset.univ fun p : Piece => bigSep (Finset.univ.filter fun t => piece t = p ∧ dep t < cnt p) Φ := by
  rw [← Idealize.SL.BI.bigSep_biUnion_eq Finset.univ (fun p : Piece => Finset.univ.filter fun t => piece t = p ∧ dep t < cnt p) Φ
    (fun a _ b _ h => Finset.disjoint_left.mpr fun t ha hb => h (by rw [← (Finset.mem_filter.mp ha).2.1, (Finset.mem_filter.mp hb).2.1]))]
  congr 1
  exact (Finset.eq_univ_of_forall fun t => Finset.mem_biUnion.mpr ⟨piece t, Finset.mem_univ _, Finset.mem_filter.mpr ⟨Finset.mem_univ _, rfl, dep_lt t⟩⟩).symm

/-- All the borrowers' shares and all that was kept: every half block whole, -/
theorem rejoin_all :
    iprop((bigSep Finset.univ fun p : Piece => held c (halfM (bufM p.1) p.2) (kept (cnt p)) (xh m (org p.1 c) p.2))
        ∗ bigSep Finset.univ fun t => held c (srcM t) (lent t) (xh m (org (srcB t) c) (hf t)))
      ⊢ (bigSep Finset.univ fun p : Piece => heldAny c (halfM (bufM p.1) p.2) : sProp 𝕄) := by
  rw [by_piece, ← show _ = iprop(_ ∗ _) from bigSep_sep' _ _ _]
  refine bigSep_mono fun p _ => ?_
  refine BI.Entails.trans ?_ (held_any c (halfM (bufM p.1) p.2) (xh m (org p.1 c) p.2))
  refine BI.Entails.trans (BI.sep_mono (BI.Entails.refl _) (bigSep_mono fun t ht => ?_)) (rejoin c p (xh m (org p.1 c) p.2) (cnt p) le_rfl)
  obtain ⟨-, e, -⟩ := Finset.mem_filter.mp ht
  subst e
  exact BI.Entails.refl _

/-- and every buffer. -/
theorem buffers_back :
    iprop((bigSep Finset.univ fun p : Piece => held c (halfM (bufM p.1) p.2) (kept (cnt p)) (xh m (org p.1 c) p.2))
        ∗ bigSep Finset.univ fun t => held c (srcM t) (lent t) (xh m (org (srcB t) c) (hf t)))
      ⊢ (bigSep Finset.univ fun b => heldAny c (bufM b) : sProp 𝕄) := by
  refine (rejoin_all m c).trans ?_
  rw [bigSep_univ_prod]
  exact bigSep_mono fun b _ => join_any c (bufM b) halves fun _ _ => rfl

/-! ## The result -/

/-- The result of device `c`: in row `r` the row `r mod 256` of what comes of half `r mod 512 / 256` of the rows of device
    `r / 512`. -/
def outAt : S4096x1024.Idx → Elt F .f32 := fun x =>
  res m c ⟨(x 0).val / 512, Nat.div_lt_of_lt_mul (show (x 0).val < 512 * 8 from (x 0).isLt)⟩
    ⟨(x 0).val % 512 / 256, Nat.div_lt_of_lt_mul (show (x 0).val % 512 < 256 * 2 from Nat.mod_lt _ (by decide))⟩
    (fun a => match a with | ⟨0, _⟩ => ⟨(x 0).val % 256, Nat.mod_lt _ (by decide)⟩ | ⟨1, _⟩ => x 1)

theorem outAt_emb (p : Piece) (y : (outR c p).shape.Idx) : outAt m c ((outR c p).emb y) = resP m c p y := by
  have l0 : (y 0).val < 256 := (y 0).isLt
  have l1 := p.2.isLt
  have e0 : (((outR c p).emb y : S4096x1024.Idx) 0).val = 512 * (org p.1 c).val + 256 * p.2.val + 1 * (y 0).val := rfl
  have e1 : (((outR c p).emb y : S4096x1024.Idx) 1).val = 0 + 1 * (y 1).val := rfl
  have key (d d' : Dev nD) (h h' : Fin 2) (z z' : S256x1024.Idx) (e : d = d') (e' : h = h') (e'' : z = z') : res m c d h z = res m c d' h' z' := by
    subst e e' e''; rfl
  unfold outAt
  refine key _ _ _ _ _ _ (Fin.ext ?_) (Fin.ext ?_) (funext fun a => Fin.ext ?_)
  · show (((outR c p).emb y : S4096x1024.Idx) 0).val / 512 = (org p.1 c).val
    rw [e0]; omega
  · show (((outR c p).emb y : S4096x1024.Idx) 0).val % 512 / 256 = p.2.val
    rw [e0]; omega
  · match a with
    | ⟨0, _⟩ =>
      show (((outR c p).emb y : S4096x1024.Idx) 0).val % 256 = (y 0).val
      rw [e0]; omega
    | ⟨1, _⟩ =>
      show (((outR c p).emb y : S4096x1024.Idx) 1).val = (y 1).val
      rw [e1]; omega

/-! ## The end -/

/-- What device `c` holds at the end. -/
def Finish : sProp 𝕄 :=
  iprop((xPts m c ∗ wPts m c ∗ held c oA fullShare (outAt m c))
    ∗ ((bigSep Finset.univ fun b => heldAny c (bufM b)) ∗ heldAny c wM ∗ heldAny c tM)
    ∗ (semVal (barCell c) 0 ∗ bigSep Finset.univ fun i => semVal ((c : Thread nD τ), osem i) 0) ∗ Owes c [])

theorem two (Φ : Bool → sProp 𝕄) : bigSep Finset.univ Φ = iprop(Φ false ∗ Φ true) := bigSep_univ_eq_bigSepL [false, true] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- All own semaphores, from those of the transfers and those of the local copies. -/
theorem sems_all :
    iprop((bigSep Finset.univ fun t => semVal (sendCell t c) 0) ∗ (bigSep Finset.univ fun t => semVal (recvCell t c) 0)
        ∗ semVal ((c : Thread nD τ), .dma xS) 0 ∗ semVal ((c : Thread nD τ), .dma wS) 0 ∗ bigSep Finset.univ fun i : Fin 4 => semVal ((c : Thread nD τ), .dma (tileSem i)) 0)
      ⊢ (bigSep Finset.univ fun i => semVal ((c : Thread nD τ), osem i) 0 : sProp 𝕄) := by
  rw [show (bigSep Finset.univ fun i : (Bool × Fin 14) ⊕ Fin 6 => semVal ((c : Thread nD τ), osem i) 0 : sProp 𝕄) = iprop(_ ∗ _) from bigSep_univ_sum _,
    bigSep_univ_prod,
    two,
    six, four]
  iintro ⟨Hs, Hr, Hx, Hw, H0, H1, H2, H3⟩
  isplitl [Hs Hr]
  · isplitl [Hs]; · iexact Hs
    iexact Hr
  isplitl [Hx]; · iexact Hx
  isplitl [Hw]; · iexact Hw
  isplitl [H0]; · iexact H0
  isplitl [H1]; · iexact H1
  isplitl [H2]; · iexact H2
  iexact H3

/-- A family of finished cells closes. -/
theorem close_all {I : Type} [Fintype I] (f : I → Option (Bool × Fin 14)) :
    (bigSep Finset.univ fun t => Done m K c (f t)) ⊢ (|={Set.univ}=> bigSep Finset.univ fun t => semVal (kcell (c, f t)) 0 : sProp 𝕄) :=
  (bigSep_mono fun t _ => done_close m K c (f t)).trans (bigSep_fupd _ _)

theorem finish : iprop(St m K c s24 ∗ WDone m c ∗ Early m K c) ⊢ (|={Set.univ}=> Finish m c : sProp 𝕄) := by
  have hs : ∀ t, s24.snd t = .over := by decide +kernel
  have hr : ∀ t, s24.rcv t = true := by decide +kernel
  have hh : ∀ p, s24.hold p = some (cnt p) := by decide +kernel
  have ht : ∀ i, s24.tile i = .free := by decide +kernel
  have ho : ∀ p, s24.out p = .new := by decide +kernel
  have htodo : s24.todo = [] := by decide +kernel
  unfold St Early WDone
  simp only [hs, hr, hh, ht, ho, htodo]
  unfold sndP rcvP holdP tileP outP
  simp only [bigSep_sep']
  iintro ⟨⟨⟨Hs, Hlent⟩, Hr, Hh, ⟨Ht, Hts⟩, Ho, HO, -⟩, ⟨Hw, Hwp, Hws⟩, Hb, Hx, Hxp⟩
  imod (done_close m K c none) $$ Hb with Hb
  imod (close_all m K c fun t => some (false, t)) $$ Hs with Hs
  imod (close_all m K c fun t => some (true, t)) $$ Hr with Hr
  imodintro
  unfold Finish
  isplitl [Hxp Hwp Ho]
  · isplitl [Hxp]; · iexact Hxp
    isplitl [Hwp]; · iexact Hwp
    iapply (join_held c oA (outs c) (fun _ _ => rfl) fullShare (outAt m c) (fun p => resP m c p) (outAt_emb m c))
    iexact Ho
  isplitl [Hh Hlent Hw Ht]
  · isplitl [Hh Hlent]
    · iapply (buffers_back m c)
      isplitl [Hh]; · iexact Hh
      iexact Hlent
    isplitl [Hw]; · iapply (held_any c wM (ws m c)) $$ Hw
    iapply (join_any c tM tiles (fun _ _ => rfl))
    iexact Ht
  isplitr [HO]
  · isplitl [Hb]; · iexact Hb
    iapply (sems_all c)
    isplitl [Hs]; · iexact Hs
    isplitl [Hr]; · iexact Hr
    isplitl [Hx]; · iexact Hx
    isplitl [Hws]; · iexact Hws
    iexact Hts
  iexact HO

end Cert.Gather

end
-- ==== Proof.Deal.lean ====
/-
# What the launch deals

The cells' states, positions and tokens are made at once for all devices; the cells' invariants are allocated; the tokens
go to the devices that pay with them, and the credit for what the others owe to the devices that wait for it.
-/
module

public import proofs.«01_k».proof.Proof.Exit

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Option (Bool × Fin 14) → ℕ) (c : Dev nD)

/-! ## Families over the cells -/

/-- A family over a device's cells: its barrier's, those of its send and those of its receive cells. -/
theorem by_cell (Φ : Option (Bool × Fin 14) → sProp 𝕄) :
    bigSep Finset.univ Φ = iprop(Φ none ∗ (bigSep Finset.univ fun t => Φ (some (false, t))) ∗ bigSep Finset.univ fun t => Φ (some (true, t))) := by
  have e : (Finset.univ : Finset (Option (Bool × Fin 14))) = insert none (Finset.univ.map Function.Embedding.some) := by decide +kernel
  rw [e, show bigSep (insert none (Finset.univ.map Function.Embedding.some)) Φ = iprop(Φ none ∗ bigSep (Finset.univ.map Function.Embedding.some) Φ) from
    bigSep_insert (by simp), BI.bigSep_map, bigSep_univ_prod, two]
  rfl

/-- What can be copied is there for every member of a family. -/
theorem with_all {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ := by
  have e : iprop((bigSep Finset.univ fun _ : I => R) ∗ bigSep Finset.univ Φ) ⊢ bigSep Finset.univ Ψ := by
    rw [← show _ = iprop(_ ∗ _) from bigSep_sep' _ _ _]
    exact bigSep_mono fun i _ => h i
  iintro ⟨#HR, H⟩
  iapply e
  isplitr
  · iapply (BI.bigSep_of_persistent Finset.univ R) $$ HR
  · iexact H

/-! ## The launch element -/

/-- All cells, and their duties: a barrier's three, one for each transfer at either end. -/
def cells : Finset (GSem nD τ sig) := Finset.univ.map ⟨kcell, kcell_injective⟩
abbrev duty (x : Dev nD × (Fin 3 ⊕ (Bool × Fin 14))) : GSem nD τ sig × ℕ × Fin 3 :=
  match x.2 with
  | .inl k => (barCell x.1, 0, k)
  | .inr p => (kcell (x.1, some p), 0, 0)
theorem duty_injective : Function.Injective duty := by
  rintro ⟨c, k | p⟩ ⟨c', k' | p'⟩ h
  · obtain rfl : c = c' := congrArg (fun x : GSem nD τ sig × ℕ × Fin 3 => x.1.1.1) h
    obtain rfl : k = k' := congrArg (fun x : GSem nD τ sig × ℕ × Fin 3 => x.2.2) h
    rfl
  · exact absurd (kcell_injective (a₁ := (c, none)) (a₂ := (c', some p')) (congrArg (fun x : GSem nD τ sig × ℕ × Fin 3 => x.1) h)) (by simp)
  · exact absurd (kcell_injective (a₁ := (c, some p)) (a₂ := (c', none)) (congrArg (fun x : GSem nD τ sig × ℕ × Fin 3 => x.1) h)) (by simp)
  · have e := kcell_injective (a₁ := (c, some p)) (a₂ := (c', some p')) (congrArg (fun x : GSem nD τ sig × ℕ × Fin 3 => x.1) h)
    simp only [Prod.mk.injEq, Option.some.injEq] at e
    obtain ⟨rfl, rfl⟩ := e
    rfl
def dutyToks : Finset (GSem nD τ sig × ℕ × Fin 3) := Finset.univ.map ⟨duty, duty_injective⟩

def u₀ : UU := (initOf (Pipeline.cells cfgs cellOf_inj) (Pipeline.launchToks cfgs cellOf_inj), (initOf cells dutyToks, 1))

/-- The tokens of device `c`'s own cells. -/
def Toks : sProp 𝕄 :=
  iprop((bigSep Finset.univ fun k => dutyTok ER (barCell c) 0 k) ∗ (bigSep Finset.univ fun t => dutyTok ER (sendCell t c) 0 0)
    ∗ bigSep Finset.univ fun t => dutyTok ER (recvCell t c) 0 0)
/-- What the launch element gives each device: its cells' states, positions and tokens. -/
def G : sProp 𝕄 :=
  iprop((bigSep Finset.univ fun i => roundState ER (sched m) (kcell (c, i)) 0)
    ∗ (bigSep Finset.univ fun i => atPos ER (kcell (c, i)) 0 ∅ 0) ∗ (bigSep Finset.univ fun i => reached ER (kcell (c, i)) 0) ∗ Toks c)

theorem fund_cells : BI.own (ER (initOf cells dutyToks)) ⊢ (|==> bigSep Finset.univ (G m) : sProp 𝕄) := by
  have hX (Φ : GSem nD τ sig → sProp 𝕄) : bigSep cells Φ = bigSep Finset.univ fun c : Dev nD => bigSep Finset.univ fun i => Φ (kcell (c, i)) := by
    unfold cells; rw [BI.bigSep_map, bigSep_univ_prod]; rfl
  have hT : bigSep dutyToks (fun x => (dutyTok ER x.1 x.2.1 x.2.2 : sProp 𝕄)) = bigSep Finset.univ fun c : Dev nD => Toks c := by
    unfold dutyToks
    rw [BI.bigSep_map, bigSep_univ_prod]
    refine bigSep_congr fun c _ => ?_
    unfold Toks
    rw [show ∀ Φ : Fin 3 ⊕ (Bool × Fin 14) → sProp 𝕄, bigSep Finset.univ Φ = iprop(_ ∗ _) from fun Φ => bigSep_univ_sum Φ, bigSep_univ_prod, two]
    rfl
  iintro H
  imod (Rounds.fund ER (sched m) cells dutyToks) $$ H with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

/-! ## The invariants -/

/-- The local semaphores at zero. -/
def Locals : sProp 𝕄 := bigSep Finset.univ fun i => semVal ((c : Thread nD τ), lsem i) 0

/-- The launch's one unscoped semaphore is the barrier's. -/
theorem unscoped_sem : (unscopedSems0 c : sProp 𝕄) = semVal (barCell c) 0 := by
  unfold unscopedSems0
  rw [bigSep_eq_bigSepL_of_eq [SemLoc.reg barS] (by decide) (by decide)]
  rfl

theorem sems_split :
    iprop(Pipeline.ownSems0 (Ix := Unit) (Name := ℕ) (U := UU) (Lvl := ℕ) (Val := Elt F) (τ := τ) osem c ∗ unscopedSems0 c)
      ⊢ iprop((bigSep Finset.univ fun i => semVal (kcell (c, i)) 0) ∗ Locals (F := F) c) := by
  rw [unscoped_sem, by_cell]
  unfold Pipeline.ownSems0 Locals
  rw [show (bigSep Finset.univ fun i : (Bool × Fin 14) ⊕ Fin 6 => semVal ((c : Thread nD τ), osem i) 0 : sProp 𝕄) = iprop(_ ∗ _) from bigSep_univ_sum _,
    bigSep_univ_prod, two]
  iintro ⟨⟨⟨Hs, Hr⟩, Hl⟩, Hb⟩
  isplitr [Hl]
  · isplitl [Hb]; · iexact Hb
    isplitl [Hs]; · iexact Hs
    iexact Hr
  · iexact Hl

/-- Counters at zero and fresh states make invariants. -/
theorem alloc_all :
    iprop((bigSep Finset.univ fun i => semVal (kcell (c, i)) 0) ∗ bigSep Finset.univ fun i => roundState ER (sched m) (kcell (c, i)) 0)
      ⊢ (|={Set.univ}=> bigSep Finset.univ fun i => iprop(∃ κ : ℕ, cellInv ER (sched m) κ (kcell (c, i))) : sProp 𝕄) := by
  rw [← show _ = iprop(_ ∗ _) from bigSep_sep' _ _ _]
  exact (bigSep_mono fun i _ => (Rounds.body_intro ER (sched m) (kcell (c, i))).trans inv_alloc).trans (bigSep_fupd _ _)

/-- A device after its allocations. -/
def Mid : sProp 𝕄 :=
  iprop((bigSep Finset.univ fun i => iprop(∃ κ : ℕ, cellInv ER (sched m) κ (kcell (c, i))))
    ∗ (bigSep Finset.univ fun i => atPos ER (kcell (c, i)) 0 ∅ 0) ∗ (bigSep Finset.univ fun i => reached ER (kcell (c, i)) 0) ∗ Toks c ∗ Locals c)

theorem alloc_device :
    iprop(Pipeline.ownSems0 (Ix := Unit) (Name := ℕ) (U := UU) (Lvl := ℕ) (Val := Elt F) (τ := τ) osem c ∗ unscopedSems0 c ∗ G m c)
      ⊢ |={Set.univ}=> Mid m c := by
  unfold G
  iintro ⟨Ho, Hu, Hst, Hat, Hr, Ht⟩
  ihave ⟨Hv, Hl⟩ := (sems_split (F := F) c) $$ [Ho Hu]
  · isplitl [Ho]; · iexact Ho
    iexact Hu
  imod (alloc_all m c) $$ [Hv Hst] with Hi
  · isplitl [Hv]; · iexact Hv
    iexact Hst
  imodintro
  unfold Mid
  isplitl [Hi]; · iexact Hi
  isplitl [Hat]; · iexact Hat
  isplitl [Hr]; · iexact Hr
  isplitl [Ht]; · iexact Ht
  iexact Hl

/-! ## The tokens, to those who pay with them -/

/-- The tokens device `c` pays with: its neighbours' barrier duties, its own send duties and its targets' receive duties. -/
def PayToks : sProp 𝕄 :=
  iprop((bigSep Finset.univ fun k => dutyTok ER (barCell (nb k c)) 0 (opp k)) ∗ (bigSep Finset.univ fun t => dutyTok ER (sendCell t c) 0 0)
    ∗ bigSep Finset.univ fun t => dutyTok ER (recvCell t (tgt t c)) 0 0)

theorem opp_opp (k : Fin 3) : opp (opp k) = k := by revert k; decide
def oppEquiv : Fin 3 ≃ Fin 3 := ⟨opp, opp, opp_opp, opp_opp⟩

/-- A family over devices and directions, seen from the neighbours; -/
theorem around_bar (Φ : Dev nD → Fin 3 → sProp 𝕄) :
    (bigSep Finset.univ fun c => bigSep Finset.univ fun k => Φ c k) = bigSep Finset.univ fun c => bigSep Finset.univ fun k => Φ (nb k c) (opp k) := by
  rw [Pipeline.bigSep_univ_comm (fun c k => Φ c k), Pipeline.bigSep_univ_comm (fun c k => Φ (nb k c) (opp k)),
    bigSep_univ_equiv oppEquiv (fun k => bigSep Finset.univ fun c => Φ c k)]
  exact bigSep_congr fun k _ => bigSep_univ_equiv (nbEquiv k) (fun c => Φ c (opp k))
/-- over devices and transfers, from the senders. -/
theorem around_recv (Φ : Dev nD → Fin 14 → sProp 𝕄) :
    (bigSep Finset.univ fun c => bigSep Finset.univ fun t => Φ c t) = bigSep Finset.univ fun c => bigSep Finset.univ fun t => Φ (tgt t c) t := by
  rw [Pipeline.bigSep_univ_comm (fun c t => Φ c t), Pipeline.bigSep_univ_comm (fun c t => Φ (tgt t c) t)]
  exact bigSep_congr fun t _ => bigSep_univ_equiv (nbEquiv (dir t)) (fun c => Φ c t)

theorem toks_around : (bigSep Finset.univ fun c : Dev nD => (Toks c : sProp 𝕄)) ⊢ bigSep Finset.univ fun c : Dev nD => PayToks c := by
  unfold Toks PayToks
  simp only [bigSep_sep']
  rw [around_bar (fun c k => (dutyTok ER (barCell c) 0 k : sProp 𝕄)), around_recv (fun c t => (dutyTok ER (recvCell t c) 0 0 : sProp 𝕄))]

/-! ## What each device gets -/

/-- All invariants and all marks of round 0: everybody may have them. -/
def Records : sProp 𝕄 :=
  iprop((bigSep Finset.univ fun x : Dev nD × Option (Bool × Fin 14) => cellInv ER (sched m) (K x) (kcell x))
    ∗ bigSep Finset.univ fun x : Dev nD × Option (Bool × Fin 14) => reached ER (kcell x) 0)
instance records_persistent : BI.Persistent (Records m K) := by unfold Records; infer_instance

theorem records_inv (x : Dev nD × Option (Bool × Fin 14)) : Records m K ⊢ cellInv ER (sched m) (K x) (kcell x) := by
  have h : (bigSep Finset.univ fun x : Dev nD × Option (Bool × Fin 14) => (cellInv ER (sched m) (K x) (kcell x) : sProp 𝕄)) ⊢ cellInv ER (sched m) (K x) (kcell x) :=
    bigSep_elim (Finset.mem_univ x)
  unfold Records
  iintro ⟨H, -⟩
  iapply h $$ H
theorem records_reached (x : Dev nD × Option (Bool × Fin 14)) : Records m K ⊢ reached ER (kcell x) 0 := by
  have h : (bigSep Finset.univ fun x : Dev nD × Option (Bool × Fin 14) => (reached ER (kcell x) 0 : sProp 𝕄)) ⊢ reached ER (kcell x) 0 :=
    bigSep_elim (Finset.mem_univ x)
  unfold Records
  iintro ⟨-, H⟩
  iapply h $$ H

/-- Device `c`'s part of the cells, all but the credit. -/
def Deal : sProp 𝕄 :=
  iprop((bigSep Finset.univ fun t => SendKit m K c t)
    ∗ (bigSep Finset.univ fun t => iprop(cellInv ER (sched m) (K (c, some (true, t))) (recvCell t c) ∗ atPos ER (recvCell t c) 0 ∅ 0))
    ∗ (bigSep Finset.univ fun k => BarKit m K c k)
    ∗ cellInv ER (sched m) (K (c, none)) (barCell c) ∗ atPos ER (barCell c) 0 ∅ 0)

theorem send_kits :
    iprop(Records m K ∗ bigSep Finset.univ fun t => iprop(atPos ER (sendCell t c) 0 ∅ 0 ∗ dutyTok ER (sendCell t c) 0 0 ∗ dutyTok ER (recvCell t (tgt t c)) 0 0))
      ⊢ bigSep Finset.univ fun t => SendKit m K c t :=
  with_all fun t => by
    unfold SendKit
    iintro ⟨#HR, Ha, Hs, Hr⟩
    isplitr; · iapply (records_inv m K (c, some (false, t))) $$ HR
    isplitr; · iapply (records_inv m K (tgt t c, some (true, t))) $$ HR
    isplitl [Ha]; · iexact Ha
    isplitl [Hs]; · iexact Hs
    isplitr; · iapply (records_reached m K (c, some (false, t))) $$ HR
    isplitl [Hr]; · iexact Hr
    iapply (records_reached m K (tgt t c, some (true, t))) $$ HR
theorem recv_kits :
    iprop(Records m K ∗ bigSep Finset.univ fun t => atPos ER (recvCell t c) 0 ∅ 0)
      ⊢ bigSep Finset.univ fun t => iprop(cellInv ER (sched m) (K (c, some (true, t))) (recvCell t c) ∗ atPos ER (recvCell t c) 0 ∅ 0) :=
  with_all fun t => by
    iintro ⟨#HR, Ha⟩
    isplitr; · iapply (records_inv m K (c, some (true, t))) $$ HR
    iexact Ha
theorem bar_kits :
    iprop(Records m K ∗ bigSep Finset.univ fun k => dutyTok ER (barCell (nb k c)) 0 (opp k)) ⊢ bigSep Finset.univ fun k => BarKit m K c k :=
  with_all fun k => by
    unfold BarKit
    iintro ⟨#HR, Ht⟩
    isplitr; · iapply (records_inv m K (nb k c, none)) $$ HR
    isplitl [Ht]; · iexact Ht
    iapply (records_reached m K (nb k c, none)) $$ HR

theorem deal_intro : iprop(Records m K ∗ (bigSep Finset.univ fun i => atPos ER (kcell (c, i)) 0 ∅ 0) ∗ PayToks c) ⊢ Deal m K c := by
  rw [by_cell]
  unfold PayToks Deal
  iintro ⟨#HR, ⟨Hab, Has, Har⟩, Htb, Hts, Htr⟩
  isplitl [Has Hts Htr]
  · iapply (send_kits m K c)
    isplitr; · iexact HR
    simp only [bigSep_sep']
    isplitl [Has]; · iexact Has
    isplitl [Hts]; · iexact Hts
    iexact Htr
  isplitl [Har]
  · iapply (recv_kits m K c)
    isplitr; · iexact HR
    iexact Har
  isplitl [Htb]
  · iapply (bar_kits m K c)
    isplitr; · iexact HR
    iexact Htb
  isplitr; · iapply (records_inv m K (c, none)) $$ HR
  iexact Hab

/-- What the launch's global step leaves each device with. -/
def G' : sProp 𝕄 := iprop((∃ K, Deal m K c) ∗ Locals c)

theorem regroup : (bigSep Finset.univ (Mid m) : sProp 𝕄) ⊢ bigSep Finset.univ (G' m) := by
  have out (K : Dev nD × Option (Bool × Fin 14) → ℕ) (c : Dev nD) :
      iprop(Records m K ∗ (bigSep Finset.univ fun i => atPos ER (kcell (c, i)) 0 ∅ 0) ∗ PayToks c ∗ Locals c) ⊢ G' m c := by
    unfold G'
    iintro ⟨HR, Ha, Ht, Hl⟩
    isplitr [Hl]
    · iexists K
      iapply (deal_intro m K c)
      isplitl [HR]; · iexact HR
      isplitl [Ha]; · iexact Ha
      iexact Ht
    · iexact Hl
  unfold Mid
  simp only [bigSep_sep']
  rw [← bigSep_univ_prod (fun x : Dev nD × Option (Bool × Fin 14) => iprop(∃ κ : ℕ, cellInv ER (sched m) κ (kcell x))),
    ← bigSep_univ_prod (fun x : Dev nD × Option (Bool × Fin 14) => (reached ER (kcell x) 0 : sProp 𝕄))]
  iintro ⟨HI, Ha, #HR, Ht, Hl⟩
  ihave HI := (BI.bigSep_exists_pi Finset.univ (fun (x : Dev nD × Option (Bool × Fin 14)) (κ : ℕ) => (cellInv ER (sched m) κ (kcell x) : sProp 𝕄))) $$ HI
  icases HI with ⟨%K, #HI⟩
  ihave Ht := (toks_around (F := F)) $$ Ht
  iapply (with_all (out K))
  isplitr
  · unfold Records
    isplitl; · iexact HI
    iexact HR
  · simp only [bigSep_sep']
    isplitl [Ha]; · iexact Ha
    isplitl [Ht]; · iexact Ht
    iexact Hl

/-- The global step: from every device's semaphores and states to every device's part. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => alloc_device m c).trans (bigSep_fupd _ _)).trans (BI.fupd_mono (regroup m))

/-! ## The credit -/

/-- Each listed transfer, owed by every device, is credit for each device's receive cell. -/
theorem creds_recv : ∀ l : List (Fin 14), (Pipeline.launchCred (fun d => owed d l) c : sProp 𝕄) ⊢ bigSepL l fun t => cred (tallyAt (recvCell t c) () N)
  | [] => by
    show (Pipeline.launchCred (fun _ => 0) c : sProp 𝕄) ⊢ _
    rw [Pipeline.launchCred_zero]; exact BI.Entails.refl _
  | t :: l => by
    show (Pipeline.launchCred (fun d => owed d l + tallyAt (recvCell t (tgt t d)) () N) c : sProp 𝕄) ⊢ _
    rw [Pipeline.launchCred_add, show ∀ Φ : Fin 14 → sProp 𝕄, bigSepL (t :: l) Φ = iprop(Φ t ∗ bigSepL l Φ) from fun Φ => bigSepL_cons t l Φ]
    iintro ⟨Hl, Ht⟩
    isplitl [Ht]
    · iapply (Pipeline.launchCred_tallyAt (SemLoc.dma (recvS t)) (tgt t) (frm t) (tgt_frm t) (frm_tgt t) () N c) $$ Ht
    · iapply (creds_recv l) $$ Hl

/-- The three units the neighbours owe a barrier. -/
theorem creds : (Pipeline.launchCred O₀ c : sProp 𝕄)
    ⊢ iprop(cred (tallyAt (barCell c) () 3) ∗ bigSep Finset.univ fun t => cred (tallyAt (recvCell t c) () N)) := by
  have one (k : Fin 3) := Pipeline.launchCred_tallyAt (τ := τ) (Val := Elt F) (Name := ℕ) (U := UU) (Lvl := ℕ) (SemLoc.reg barS) (nb k) (nb (opp k)) (nb_nb_opp k) (nb_opp_nb k) () 1 c
  have three : iprop(cred (tallyAt (barCell c) () 1) ∗ cred (tallyAt (barCell c) () 1) ∗ cred (tallyAt (barCell c) () 1)) ⊢ (cred (tallyAt (barCell c) () 3) : sProp 𝕄) := by
    rw [show (tallyAt (barCell c) () 3 : CellTallies nD τ sig Unit) = tallyAt (barCell c) () 1 + (tallyAt (barCell c) () 1 + tallyAt (barCell c) () 1) by
      rw [tallyAt_add, tallyAt_add]]
    exact (BI.sep_mono (BI.Entails.refl _) (cred_add _ _).2).trans (cred_add _ _).2
  show (Pipeline.launchCred (fun d => owed d sendOrder + tallyAt (barCell (nb 2 d)) () 1 + tallyAt (barCell (nb 0 d)) () 1 + tallyAt (barCell (nb 1 d)) () 1) c : sProp 𝕄) ⊢ _
  rw [Pipeline.launchCred_add, Pipeline.launchCred_add, Pipeline.launchCred_add, bigSep_univ_eq_bigSepL sendOrder (by decide) (by decide)]
  iintro ⟨⟨⟨Hr, H2⟩, H0⟩, H1⟩
  isplitr [Hr]
  · iapply three
    isplitl [H0]; · iapply (one 0) $$ H0
    isplitl [H1]; · iapply (one 1) $$ H1
    iapply (one 2) $$ H2
  · iapply (creds_recv c sendOrder) $$ Hr

end Cert.Gather

end
-- ==== Proof.Launch.lean ====
/-
# The launch

Every device's buffers are cut for the body, the body's start and end are the pipeline's, and the run leaves every device
with its arguments unchanged, the result computed and all semaphores at zero.
-/
module

public import proofs.«01_k».proof.Proof.Deal
public import Idealize.ShloMosaic.Lib.Pipeline.Launch
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Option (Bool × Fin 14) → ℕ) (c : Dev nD)

/-! ## Whole buffers -/

theorem whole_any (b : Ref sig .tc) :
    (iprop(∃ f : Buf (Elt F) ((c : Thread nD τ).loc b), ((c : Thread nD τ).loc b) ↦{fullShare} f) : sProp 𝕄) = heldAny c (Memref.whole b) := by
  unfold heldAny
  simp only [Memref.view_whole, View.set_whole]

theorem held_whole (b : Ref sig .tc) (g : b.ty.Contents (Elt F)) :
    (held c (Memref.whole b) fullShare g : sProp 𝕄) = (((c : Thread nD τ).loc b) ↦{fullShare} g) := by
  have e : (View.whole b : View sig .tc _ _ _).rep g = g := View.read_rep (View.whole b : View sig .tc _ _ _) g
  unfold held
  simp only [Memref.view_whole, View.set_whole]
  rw [e]

theorem xPts_eq : xPts m c = (((c : Thread nD τ).loc main_arg0) ↦{fullShare} m ((c : Thread nD τ).loc main_arg0) : sProp 𝕄) := by
  unfold xPts; rw [View.set_whole]
theorem wPts_eq : wPts m c = (((c : Thread nD τ).loc main_arg1) ↦{fullShare} m ((c : Thread nD τ).loc main_arg1) : sProp 𝕄) := by
  unfold wPts; rw [View.set_whole]

/-- What the launch finds in a scale's array is what is staged of it. -/
def sxStg : (cc0_stg0_0 : Ref sig .tc).ty.Contents (Elt F) := (win0_0.blk (0 : Fin 1)).view.read (Elt F) (m ((c : Thread nD τ).loc main_arg2))
def swStg : (cc0_stg1_0 : Ref sig .tc).ty.Contents (Elt F) := (win0_1.blk (0 : Fin 1)).view.read (Elt F) (m ((c : Thread nD τ).loc main_arg3))
theorem sxStg_eq : sxM.view.read (Elt F) (sxStg m c) i0 = sx m c := by
  unfold sx
  exact congrArg (m ((c : Thread nD τ).loc main_arg2) : S1.Idx → Elt F .f32) (funext fun a => Fin.ext (by
    have := (i0 : S1.Idx) a; fin_cases a; rfl))
theorem swStg_eq : swM.view.read (Elt F) (swStg m c) i0 = sw m c := by
  unfold sw
  exact congrArg (m ((c : Thread nD τ).loc main_arg3) : S1.Idx → Elt F .f32) (funext fun a => Fin.ext (by
    have := (i0 : S1.Idx) a; fin_cases a; rfl))

/-! ## The room the body works in -/

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Transfers and the half blocks they write: all of the first seven buffers. -/
theorem dst_lt (t : Fin 14) : (dstB t).val < 7 := by revert t; decide
def wrote (t : Fin 14) : Fin 7 × Fin 2 := (⟨(dstB t).val, dst_lt t⟩, hf t)
theorem wrote_bijective : Function.Bijective wrote := by decide +kernel

/-- The first seven buffers, cut into what the transfers write. -/
theorem landings : (bigSep Finset.univ fun b : Fin 7 => heldAny (F := F) c (bufM b.castSucc)) ⊢ bigSep Finset.univ fun k => Landing (F := F) c k := by
  unfold Landing
  rw [by_dir fun t => heldAny (F := F) c (dstM t)]
  refine (bigSep_mono fun b _ => cut_any c (bufM b.castSucc) halves (fun _ _ => rfl)).trans ?_
  refine (Entails.of_eq (bigSep_univ_prod (fun p : Fin 7 × Fin 2 => heldAny (F := F) c (halfM (bufM p.1.castSucc) p.2))).symm).trans ?_
  exact Entails.of_eq (bigSep_univ_equiv (Equiv.ofBijective wrote wrote_bijective) fun p : Fin 7 × Fin 2 => heldAny (F := F) c (halfM (bufM p.1.castSucc) p.2))

/-- The four tiles. -/
theorem tiles_free :
    iprop(heldAny c tM ∗ bigSep Finset.univ fun i : Fin 4 => semVal ((c : Thread nD τ), .dma (tileSem i)) 0) ⊢ (bigSep Finset.univ fun i => tileP m c i .free : sProp 𝕄) := by
  unfold tileP
  simp only [bigSep_sep']
  exact BI.sep_mono (cut_any c tM tiles (fun _ _ => rfl)) (BI.Entails.refl _)

/-- All scratch buffers, the result array and the local semaphores make the room. -/
theorem room_intro :
    iprop(Pipeline.scopedRest spec0 c ∗ (((c : Thread nD τ).loc main_v1) ↦{fullShare} m ((c : Thread nD τ).loc main_v1)) ∗ Locals c) ⊢ Room m c := by
  have out : (((c : Thread nD τ).loc main_v1) ↦{fullShare} m ((c : Thread nD τ).loc main_v1) : sProp 𝕄) ⊢ bigSep Finset.univ fun p => outP m c p .old := by
    refine BI.Entails.trans ?_ (cut_any c oA (outs c) (fun _ _ => rfl))
    unfold heldAny
    simp only [Memref.view_whole, View.set_whole]
    have h (f : Buf (Elt F) ((c : Thread nD τ).loc main_v1)) : (((c : Thread nD τ).loc main_v1) ↦{fullShare} f : sProp 𝕄)
        ⊢ iprop(∃ f : Buf (Elt F) ((c : Thread nD τ).loc main_v1), ((c : Thread nD τ).loc main_v1) ↦{fullShare} f) := by
      iintro H
      iexists f
      iexact H
    exact h _
  rw [scopedRest0_eq]
  unfold Room Locals
  simp only [whole_any]
  rw [six]
  iintro ⟨⟨H0, H1, H2, H3, H4, H5, H6, H7, H8, H9⟩, Ho, Lx, Lw, L0, L1, L2, L3⟩
  isplitl [H0 H1 H2 H3 H4 H5 H6]
  · iapply (landings (F := F) c)
    rw [seven]
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9 L0 L1 L2 L3]
  · iapply (tiles_free m c)
    isplitl [H9]; · iexact H9
    rw [four]
    isplitl [L0]; · iexact L0
    isplitl [L1]; · iexact L1
    isplitl [L2]; · iexact L2
    iexact L3
  isplitl [Ho]; · iapply out $$ Ho
  isplitl [Lx]; · iexact Lx
  iexact Lw

/-! ## The pipeline's data -/

/-- Before the body: everything but what is owed. -/
def Φ₀ : sProp 𝕄 := iprop((∃ K, Ghost m K c) ∗ Room m c ∗ xPts m c ∗ wPts m c)
/-- After it: the arguments as they were, the result, the buffers and the semaphores. -/
def Φ₁ : sProp 𝕄 :=
  iprop((xPts m c ∗ wPts m c ∗ held c oA fullShare (outAt m c))
    ∗ ((bigSep Finset.univ fun b => heldAny c (bufM b)) ∗ heldAny c wM ∗ heldAny c tM)
    ∗ (semVal (barCell c) 0 ∗ bigSep Finset.univ fun i => semVal ((c : Thread nD τ), osem i) 0))

def dats (_ : Fin 1) (c : Dev nD) : Pipeline.Dat τ (Elt F) Unit ℕ UU ℕ cfg0 c where
  A w := m ((cfg0.win w).arr.view.loc (c : Thread nD τ))
  after w _ := match w with
    | ⟨0, _⟩ => sxStg m c
    | ⟨1, _⟩ => swStg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def bodyPost : sProp 𝕄 :=
  iprop(Φ₁ m c ∗ (dats m 0 c).owesAt () t0_0.succ ∗ stg c cc0_stg0_0 (sxStg m c) ∗ stg c cc0_stg1_0 (swStg m c))

theorem bigSep_W (Φ : Fin cfg0.W → sProp 𝕄) : bigSep Finset.univ Φ = iprop(Φ (0 : Fin 2) ∗ Φ (1 : Fin 2)) := bigSep_W0 Φ
theorem fetch_sx : (cfg0.win (0 : Fin 2)).fetch t0_0 = true := rfl
theorem fetch_sw : (cfg0.win (1 : Fin 2)).fetch t0_0 = true := rfl
theorem before_sx (d) : (dats m 0 c).before (0 : Fin 2) t0_0 d = sxStg m c := by unfold Pipeline.Dat.before; rw [if_pos fetch_sx]; rfl
theorem before_sw (d) : (dats m 0 c).before (1 : Fin 2) t0_0 d = swStg m c := by unfold Pipeline.Dat.before; rw [if_pos fetch_sw]; rfl

/-- What is left once the body returned. -/
theorem body_end :
    iprop((St m K c s24 ∗ WDone m c ∗ Early m K c) ∗ Scales c (sxStg m c) (swStg m c)) ⊢ (|={Set.univ}=> bodyPost m c : sProp 𝕄) := by
  iintro ⟨H, Hx, Hw⟩
  imod (finish m K c) $$ H with H
  imodintro
  unfold Finish bodyPost Φ₁ Pipeline.Dat.owesAt Pipeline.owesWithin
  icases H with ⟨Ha, Hb, Hs, HO⟩
  isplitl [Ha Hb Hs]
  · isplitl [Ha]; · iexact Ha
    isplitl [Hb]; · iexact Hb
    iexact Hs
  isplitl [HO]
  · unfold Owes
    icases HO with ⟨%W, HO⟩
    iexists W
    isplitr; · ipureintro; exact fun _ _ => Or.inl trivial
    iexact HO
  isplitl [Hx]
  · iexists _
    isplitr; · ipureintro; rfl
    iexact Hx
  iexists _
  isplitr; · ipureintro; rfl
  iexact Hw

/-- An update may follow the body. -/
theorem late {α : Type} (p : Prog (TpuEff nD τ sig (Elt F) Λ₀ .tc) α) (P : sProp 𝕄) : WP c p (fun _ => iprop(|={Set.univ}=> P)) ⊢ WP c p fun _ => P :=
  wp_fupd _ _ _ _ _

theorem body_runs : iprop(Start m K c ∗ Scales c (sxStg m c) (swStg m c)) ⊢ WP c (atArgs (cc0_body (F := F))) (fun _ => bodyPost m c) := by
  have h := body_steps m K c (sxStg_eq m c) (swStg_eq m c) (Q := fun _ => iprop(|={Set.univ}=> bodyPost m c)) (by
    iintro ⟨Hs, Hw, Hsc, He⟩
    iapply (body_end m K c)
    isplitr [Hsc]
    · isplitl [Hs]; · iexact Hs
      isplitl [Hw]; · iexact Hw
      iexact He
    iexact Hsc)
  exact h.trans (late c _ _)

set_option maxRecDepth 8000 in
theorem body_obligation : Pipeline.BodyObligation (dats m 0 c) (defs₀ (F := F)) 𝒱₀ () Set.univ := fun t => by
  rw [fin_N0 t, bigSep_W, bigSep_W]
  simp only [owns_whole]
  show bodyPre m c ⊢ WP c (atArgs (cc0_body (F := F))) (fun _ => bodyPost m c)
  unfold bodyPre Φ₀
  iintro ⟨⟨⟨%K, Hg⟩, Hr, Hx, Hw⟩, Ho, ⟨%d, %f, %hf, Hsx⟩, %d', %f', %hf', Hsw⟩
  rw [before_sx] at hf
  rw [before_sw] at hf'
  subst hf hf'
  unfold Pipeline.Dat.owesAt Pipeline.owesWithin
  icases Ho with ⟨%W, %hW, HO⟩
  iapply (body_runs m K c)
  isplitr [Hsx Hsw]
  · unfold Start OwesB
    isplitl [Hg]; · iexact Hg
    isplitl [Hr]; · iexact Hr
    isplitl [Hx]; · iexact Hx
    isplitl [Hw]; · iexact Hw
    iexists W
    iexact HO
  · isplitl [Hsx]; · iexact Hsx
    iexact Hsw

/-! ## In and out -/

/-- What a device takes from the launch into the body. -/
def Carry : sProp 𝕄 :=
  iprop((∃ K, Ghost m K c) ∗ (((c : Thread nD τ).loc main_v1) ↦{fullShare} m ((c : Thread nD τ).loc main_v1)) ∗ Locals c ∗ xPts m c ∗ wPts m c)

theorem ghost_intro :
    iprop(Deal m K c ∗ cred (tallyAt (barCell c) () 3) ∗ (bigSep Finset.univ fun t => cred (tallyAt (recvCell t c) () N)) ∗ levAts L lv) ⊢ Ghost m K c := by
  unfold Deal Ghost
  iintro ⟨⟨Hs, Hr, Hb, Hi, Ha⟩, Hc, Hn, Hl⟩
  isplitl [Hs]; · iexact Hs
  isplitl [Hr Hn]
  · unfold RecvKit
    simp only [bigSep_sep']
    icases Hr with ⟨Hr, Hr'⟩
    isplitl [Hr]; · iexact Hr
    isplitl [Hr']; · iexact Hr'
    iexact Hn
  isplitl [Hb]; · iexact Hb
  isplitr [Hl]
  · isplitl [Hi]; · iexact Hi
    isplitl [Ha]; · iexact Ha
    iexact Hc
  iexact Hl

theorem carry_intro (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c) ⊢ |={Set.univ}=> iprop(Carry m c ∗ emp) := by
  rw [Pipeline.unscopedRestP_none, unscopedRest0_eq]
  iintro ⟨⟨Hx, Hw, Ho⟩, Hl, Hc, -, HG⟩
  ihave ⟨Hb, Hn⟩ := (creds (F := F) c) $$ Hc
  unfold G'
  icases HG with ⟨⟨%K, HD⟩, HL⟩
  imodintro
  unfold Carry
  rw [xPts_eq, wPts_eq]
  isplitl; swap; · iempintro
  isplitl [HD Hb Hn Hl]
  · iexists K
    iapply (ghost_intro m K c)
    isplitl [HD]; · iexact HD
    isplitl [Hb]; · iexact Hb
    isplitl [Hn]; · iexact Hn
    iexact Hl
  isplitl [Ho]; · iexact Ho
  isplitl [HL]; · iexact HL
  isplitl [Hx]; · iexact Hx
  iexact Hw

theorem enter :
    iprop(Carry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ Carry
  iintro ⟨⟨Hg, Ho, HL, Hx, Hw⟩, -, Hs⟩
  isplitl [Hg]; · iexact Hg
  isplitl [Ho HL Hs]
  · iapply (room_intro m c)
    isplitl [Hs]; · iexact Hs
    isplitl [Ho]; · iexact Ho
    iexact HL
  isplitl [Hx]; · iexact Hx
  iexact Hw

/-- What a device keeps past the body: its arrays and the barrier. -/
def Leave : sProp 𝕄 := iprop(unscopedSems0 c ∗ xPts m c ∗ wPts m c ∗ held c oA fullShare (outAt m c))

theorem exit : (dats m 0 c).Φ (Fin.last cfg0.N) ⊢ iprop(Leave m c ∗ Pipeline.ownSems0 osem c ∗ Pipeline.scopedRest cfg0.spec c) := by
  rw [show (dats m 0 c).Φ (Fin.last cfg0.N) = Φ₁ m c from rfl, scopedRest0_eq]
  unfold Φ₁ Leave Pipeline.ownSems0
  rw [unscoped_sem, eight]
  simp only [whole_any]
  iintro ⟨⟨Hx, Hw, Ho⟩, ⟨⟨H0, H1, H2, H3, H4, H5, H6, H7⟩, H8, H9⟩, Hb, Hs⟩
  isplitl [Hx Hw Ho Hb]
  · isplitl [Hb]; · iexact Hb
    isplitl [Hx]; · iexact Hx
    isplitl [Hw]; · iexact Hw
    iexact Ho
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem waits : (levAts L lv : sProp 𝕄) ⊢ Pipeline.cellsWaits cfgs (dats m) () 0 c :=
  Pipeline.cellsWaits_intro cfgs (dats m) () 0 c fun w s t => by
    have h : lvS (.dma ((cfg0.win w).sem s)) = 0 := by fin_cases w <;> fin_cases s <;> decide
    rcases t with ⟨_ | _, ht⟩
    · exact mayWait_launch c _ h
    · exact mayWait c _ [] (by simp)

/-! ## The run -/

/-- What the run leaves a device's memory at. -/
def After (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outAt m c

theorem read_one {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  exact h.trans (BI.sep_mono (BI.pure_mono fun h => h () (Finset.mem_singleton_self _)) (BI.Entails.refl _))

theorem leave_read (s' : Phys nD τ sig (Elt F)) :
    iprop(Leave m c ∗ emp ∗ SI s') ⊢ (|={Set.univ}=> iprop(⌜After m c s'.mem ∧ ∀ sm : SemLoc sig, sm.isScoped .tc = false → s'.mem.sem ((c : Thread nD τ), sm) = 0⌝ ∗ SI s') : sProp 𝕄) := by
  unfold Leave
  rw [xPts_eq, wPts_eq, held_whole c main_v1]
  iintro ⟨⟨Hu, Hx, Hw, Ho⟩, -, HS⟩
  ihave ⟨%hx, HS⟩ := (read_one (F := F) _ s') $$ [Hx HS]
  · isplitl [Hx]; · iexact Hx
    iexact HS
  ihave ⟨%hw, HS⟩ := (read_one (F := F) _ s') $$ [Hw HS]
  · isplitl [Hw]; · iexact Hw
    iexact HS
  ihave ⟨%ho, HS⟩ := (read_one (F := F) _ s') $$ [Ho HS]
  · isplitl [Ho]; · iexact Ho
    iexact HS
  imod (Pipeline.unscopedSems0_read (X := unscopedSems0 c) (c := c) fupd_intro s') $$ [Hu HS] with ⟨%hs, HS⟩
  · isplitl [Hu]; · iexact Hu
    iexact HS
  imodintro
  isplitr; · ipureintro; exact ⟨⟨hx, hw, ho⟩, hs⟩
  iexact HS

theorem launch_element : (ownU u₀ : sProp 𝕄)
    ⊢ |={Set.univ}=> iprop(BI.own (EP (initOf (Pipeline.cells cfgs cellOf_inj) (Pipeline.launchToks cfgs cellOf_inj))) ∗ bigSep Finset.univ (G m)) := by
  have fund : BI.own (((Emb.inl : Emb UB (UB × Counters)).trans embR) (initOf cells dutyToks)) ⊢ (|==> bigSep Finset.univ (G m) : sProp 𝕄) := fund_cells m
  unfold u₀
  iintro H
  ihave ⟨HP, HX⟩ := (ownU_pair _ _) $$ H
  ihave ⟨HR, -⟩ := (own_pair_emb _ _ _) $$ HX
  imod fund $$ HR with HG
  imodintro
  isplitl [HP]; · iexact HP
  iexact HG

set_option maxRecDepth 8000 in
/-- Every weakly fair execution on the eight devices terminates: the four arguments of every device are unchanged, its
    result is what `outAt` computes from the memory at the start, and every semaphore is at zero. -/
theorem run_main (ρ : Dev nD → PrngReg) : θ_run defs (onTc (τ := τ) (main (F := F))) ⟨m, fun _ => 0, ρ⟩ (fun r =>
    (∀ c : Dev nD, After m c r.2 ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Pipeline.Dat.share; split <;> rfl) (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := launch_element m) (hglob := glob m)
    (hA := fun _ _ => rfl) (hpf := fun _ k => k.elim0)
    (X := Carry m) (Y := Leave m) (Z := fun _ => iprop(emp))
    (hX := fun c => carry_intro m c ρ) (hin := enter m) (hout := exit m)
    (QY := fun c s => After m c s ∧ ∀ sm : SemLoc sig, sm.isScoped .tc = false → s.sem ((c : Thread nD τ), sm) = 0)
    (hY := leave_read m)
    (hQ := fun _ h hs => ⟨fun c => ⟨(h c).2.2.1, ((h c).1 (0 : Fin 2)).trans ((dats m 0 c).arrAt_in (0 : Fin 2) rfl _),
      ((h c).1 (1 : Fin 2)).trans ((dats m 0 c).arrAt_in (1 : Fin 2) rfl _)⟩, sem_eq_zero hs fun c => (h c).2.2.2⟩)

end Cert.Gather

end
-- ==== Proof.Same.lean ====
/- The program read over bit patterns and the program read over the reals are one text, since no operation was replaced:
   what is proved of the one at every reading of the floats is a theorem of the other. -/
module

public import proofs.«01_k».proof.Proof.Launch
public import proofs.«01_k».proof.Proof.Gen.Kernel.Skeleton

@[expose] public section

noncomputable section

namespace Cert.Gather

open Idealize.ShloMosaic Idealize.ShloMosaic.TcCoe Idealize.SL.Sem

variable {F : FTy → Type} [FloatOps F]

/-- The two programs have one `main`. -/
theorem main_same : Cert.Kernel.main (F := F) = Cert.KernelIdeal.main (F := F) := rfl

/-- What the two programs launch before the grid is laid out is the same. -/
theorem bodies_same : Cert.Kernel.defs₀ (F := F) = Cert.KernelIdeal.defs₀ (F := F) :=
  congrArg Defs.onTc (funext fun l => funext fun a => match l, a with | 0, (_, _) => rfl)

/-- And so is all that they launch. -/
theorem defs_same : Cert.Kernel.defs (F := F) = Cert.KernelIdeal.defs (F := F) :=
  congrArg (Pipeline.defs Cert.KernelIdeal.pcfgs) bodies_same

/-- The program as printed for bit patterns runs, at every reading of the floats: it ends with its four arguments as they
    were and every counter at zero. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1)
        ∧ r.2.mem ((c : Thread Cert.Kernel.nD Cert.Kernel.τ).loc Cert.Kernel.main_arg2) = m ((c : Thread Cert.Kernel.nD Cert.Kernel.τ).loc Cert.Kernel.main_arg2)
        ∧ r.2.mem ((c : Thread Cert.Kernel.nD Cert.Kernel.τ).loc Cert.Kernel.main_arg3) = m ((c : Thread Cert.Kernel.nD Cert.Kernel.τ).loc Cert.Kernel.main_arg3))
      ∧ r.2.sem = fun _ => 0) := by
  rw [defs_same, main_same]
  exact (θ_run _ _ _).mono (fun r h => ⟨fun c => ⟨(h.1 c).1.1, (h.1 c).1.2.1, (h.1 c).2.1, (h.1 c).2.2⟩, h.2⟩) (run_main m ρ)

end Cert.Gather

end
-- ==== Proof.Value.lean ====
/- The value over the reals: what a device ends with is its block of columns of the reference's result. -/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Layout
public import Idealize.ShloMosaic.PureOps.Ideal.Laws

@[expose] public section

noncomputable section

namespace Cert.Gather

open Idealize.ShloMosaic Idealize.ShloMosaic.TcCoe Idealize.ShloMosaic.ValueIdx
open Cert.KernelIdeal Cert.KernelIdeal.Gen
open scoped BigOperators

/-- The reference's result from its four arrays. -/
def whole (X : Cert.ReferenceIdeal.S4096x4096.Idx → BitVec 8) (W : Cert.ReferenceIdeal.S4096x8192.Idx → BitVec 8)
    (a b : Cert.ReferenceIdeal.S1.Idx → EReal) : Cert.ReferenceIdeal.S4096x8192.Idx → EReal :=
  (maximumf (F := Ideal) (φ := .f32) (mulf (F := Ideal) (φ := .f32)
    (Host.dotGeneral Cert.ReferenceIdeal.dot_S4096x4096_S4096x8192_S4096x8192_1_0_0_1_n_n none
      (sitofp (F := Ideal) .f32 (extsi 32 X Cert.ReferenceIdeal.Facts₀.natLt_8_32))
      (sitofp (F := Ideal) .f32 (extsi 32 W Cert.ReferenceIdeal.Facts₀.natLt_8_32)))
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf (F := Ideal) (φ := .f32) a b))))
    (broadcastInDim Cert.ReferenceIdeal.S4096x8192 ![] Cert.ReferenceIdeal.Facts₀.bcast_S_S4096x8192
      (constant (F := Ideal) Cert.ReferenceIdeal.S_ .f32 0x00000000#32)))

/-- A byte and the word it is widened to are one integer. -/
theorem widen_int (b : BitVec 8) : (b.signExtend 32).toInt = b.toInt := BitVec.toInt_signExtend_of_le (by decide)

/-- An entry of the reference's product is the sum of the products of the integers of a row and of a column. -/
theorem dot_whole (X : Cert.ReferenceIdeal.S4096x4096.Idx → BitVec 8) (W : Cert.ReferenceIdeal.S4096x8192.Idx → BitVec 8)
    (r : Fin 4096) (l : Fin 8192) :
    Host.dotGeneral (F := Ideal) Cert.ReferenceIdeal.dot_S4096x4096_S4096x8192_S4096x8192_1_0_0_1_n_n none
      (sitofp (F := Ideal) .f32 (extsi 32 X Cert.ReferenceIdeal.Facts₀.natLt_8_32))
      (sitofp (F := Ideal) .f32 (extsi 32 W Cert.ReferenceIdeal.Facts₀.natLt_8_32)) (ix2 r l)
    = ∑ k : Fin 4096, (((X (ix2 r k)).toInt : ℝ) : EReal) * (((W (ix2 k l)).toInt : ℝ) : EReal) := by
  refine (StackMember.dotGeneral_plain_apply (m := 4096) (k := 4096) (n := 8192) (φ₁ := .f32) (φ₂ := .f32) none _ _ r l).trans ?_
  refine Finset.sum_congr rfl fun k _ => ?_
  show ((((X (ix2 r k)).signExtend 32).toInt : ℝ) : EReal) * ((((W (ix2 k l)).signExtend 32).toInt : ℝ) : EReal) = _
  rw [widen_int, widen_int]

/-- And so is an entry of the kernel's product of half the rows of a device by a block of the weights. -/
theorem dot_half (x : S256x4096.Idx → BitVec 8) (w : S4096x1024.Idx → BitVec 8) (r : Fin 256) (l : Fin 1024) :
    matmul (F := Ideal) dot_S256x4096_S4096x1024_S256x1024_1_0_0_1_n_n none (sitofp (F := Ideal) .bf16 (x : Vec Ideal S256x4096 .i8))
      (k0_pay2 (F := Ideal) w) (constant S256x1024 .f32 0x00000000#32) (ix2 r l)
    = ∑ k : Fin 4096, (((x (ix2 r k)).toInt : ℝ) : EReal) * (((w (ix2 k l)).toInt : ℝ) : EReal) := by
  refine (Ideal.matmul_plain_apply (M := 256) (K := 4096) (N := 1024) (φ₁ := .bf16) (φ₂ := .bf16) none _ _ _ r l).trans ?_
  show Ideal.ofBits .f32 0x00000000#32 + _ = _
  rw [Ideal.ofBits_zero_f32, zero_add]
  rfl

variable (m : (ℓ : Loc nD τ sig) → Buf (Elt Ideal) ℓ) (c : Dev nD)

/-- If the devices hold the blocks of rows of `X`, the blocks of columns of `W` and the two factors, what device `c` ends with
    is block `c` of the columns of the reference's result. -/
theorem outAt_whole (X : Cert.ReferenceIdeal.S4096x4096.Idx → BitVec 8) (W : Cert.ReferenceIdeal.S4096x8192.Idx → BitVec 8)
    (a b : Cert.ReferenceIdeal.S1.Idx → EReal)
    (hX : ∀ d : Dev nD, m ((d : Thread nD τ).loc main_arg0) = Layout.block ⟨2, ![512, 4096]⟩ ⟨2, ![4096, 4096]⟩ 0 8 d X)
    (hW : m ((c : Thread nD τ).loc main_arg1) = Layout.block ⟨2, ![4096, 1024]⟩ ⟨2, ![4096, 8192]⟩ 1 8 c W)
    (ha : m ((c : Thread nD τ).loc main_arg2) = a) (hb : m ((c : Thread nD τ).loc main_arg3) = b) :
    outAt m c = Layout.block ⟨2, ![4096, 1024]⟩ ⟨2, ![4096, 8192]⟩ 1 8 c (whole X W a b) := by
  have hx (d : Dev nD) : xs m d = Layout.block ⟨2, ![512, 4096]⟩ ⟨2, ![4096, 4096]⟩ 0 8 d X := hX d
  have hw : ws m c = Layout.block ⟨2, ![4096, 1024]⟩ ⟨2, ![4096, 8192]⟩ 1 8 c W := hW
  funext i
  have i0lt : (i 0).val < 4096 := (i 0).isLt
  have i1lt : (i 1).val < 1024 := (i 1).isLt
  have clt : c.val < 8 := c.isLt
  set R : Fin 4096 := ⟨(i 0).val, i0lt⟩ with hR
  set C : Fin 8192 := ⟨c.val * 1024 + (i 1).val, by omega⟩ with hC
  set r : Fin 256 := ⟨(i 0).val % 256, Nat.mod_lt _ (by decide)⟩ with hr
  set l : Fin 1024 := ⟨(i 1).val, i1lt⟩ with hl
  set d : Dev nD := ⟨(i 0).val / 512, Nat.div_lt_of_lt_mul (show (i 0).val < 512 * 8 from i0lt)⟩ with hd
  set h : Fin 2 := ⟨(i 0).val % 512 / 256, Nat.div_lt_of_lt_mul (show (i 0).val % 512 < 256 * 2 from Nat.mod_lt _ (by decide))⟩ with hh
  have ej : (show Layout.Tiles ⟨2, ![4096, 1024]⟩ ⟨2, ![4096, 8192]⟩ 1 8 by decide).idx c i = ix2 R C := by
    funext q; apply Fin.ext
    match q with
    | ⟨0, _⟩ => rfl
    | ⟨1, _⟩ => rfl
  have hdot : matmul (F := Ideal) dot_S256x4096_S4096x1024_S256x1024_1_0_0_1_n_n none
        (sitofp (F := Ideal) .bf16 (xh m d h : Vec Ideal S256x4096 .i8)) (k0_pay2 (F := Ideal) (ws m c)) (constant S256x1024 .f32 0x00000000#32) (ix2 r l)
      = Host.dotGeneral (F := Ideal) Cert.ReferenceIdeal.dot_S4096x4096_S4096x8192_S4096x8192_1_0_0_1_n_n none
        (sitofp (F := Ideal) .f32 (extsi 32 X Cert.ReferenceIdeal.Facts₀.natLt_8_32))
        (sitofp (F := Ideal) .f32 (extsi 32 W Cert.ReferenceIdeal.Facts₀.natLt_8_32)) (ix2 R C) := by
    rw [dot_half, dot_whole]
    refine Finset.sum_congr rfl fun k _ => ?_
    have e1 : xh m d h (ix2 r k) = X (ix2 R k) := by
      show xs m d _ = _
      rw [hx d, Layout.block_apply]
      refine congrArg X (funext fun q => Fin.ext ?_)
      match q with
      | ⟨0, _⟩ =>
        show (i 0).val / 512 * 512 + (256 * ((i 0).val % 512 / 256) + 1 * ((i 0).val % 256)) = (i 0).val
        omega
      | ⟨1, _⟩ => show 0 + 1 * k.val = k.val; omega
    have e2 : ws m c (ix2 k l) = W (ix2 k C) := by
      rw [hw, Layout.block_apply]
      refine congrArg W (funext fun q => Fin.ext ?_)
      match q with
      | ⟨0, _⟩ => rfl
      | ⟨1, _⟩ => rfl
    rw [e1, e2]
  rw [Layout.block_apply, ej]
  have hz : (fun q => match q with | ⟨0, _⟩ => r | ⟨1, _⟩ => i 1 : S256x1024.Idx) = ix2 r l := by
    funext q
    match q with
    | ⟨0, _⟩ => rfl
    | ⟨1, _⟩ => rfl
  have hs : k0_pay1 (F := Ideal) (sx m c) (sw m c)
      = broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf (F := Ideal) (φ := .f32) a b)) (ix2 R C) := by
    subst ha hb
    have one (y : S1.Idx) : y = i0 := funext fun q => Fin.ext (by
      have h1 := (y q).isLt; have h2 := (i0 q).isLt
      match q, h1, h2 with
      | ⟨0, _⟩, h1, h2 =>
        have h1' : (y 0).val < 1 := h1
        have h2' : (i0 0).val < 1 := h2
        show (y 0).val = (i0 0).val
        omega)
    exact congrArg (fun y : S1.Idx => FloatOps.mulf (F := Ideal) (φ := .f32) ((m ((c : Thread nD τ).loc main_arg2) : S1.Idx → EReal) y)
      ((m ((c : Thread nD τ).loc main_arg3) : S1.Idx → EReal) y)) (one _).symm
  show grain (xh m d h) (ws m c) (sx m c) (sw m c) _ = _
  erw [hz]
  exact congrArg₂ (FloatOps.maximumf (F := Ideal) (φ := .f32)) (congrArg₂ (FloatOps.mulf (F := Ideal) (φ := .f32)) hdot hs) rfl

end Cert.Gather

end
-- ==== Proof.lean ====
/- The five claims together: the kernel's run (`Proof/Launch.lean`), carried to the program over bit patterns
   (`Proof/Same.lean`), its value over the reals (`Proof/Value.lean`) and the reference's run. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel over bit patterns runs, keeps its arguments and leaves every counter at zero. -/
theorem frame_kernel : Cert.quiescent_Kernel (hKernel := Cert.Kernel.Gen.facts) := fun m g _ => Cert.Gather.kernel_frame m g

/-- So does the kernel over the reals. -/
theorem frame_ideal : Cert.quiescent_KernelIdeal (hKernelIdeal := Cert.KernelIdeal.Gen.facts) := fun m g _ =>
  (θ_run _ _ _).mono (fun _ h => ⟨fun c => ⟨(h.1 c).1.1, (h.1 c).1.2.1, (h.1 c).2.1, (h.1 c).2.2⟩, h.2⟩) (Cert.Gather.run_main m g)

/-- The reference runs, keeps its arguments and leaves every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Over the reals every device ends with its block of columns of the reference's result. -/
theorem value : Cert.algebraic_KernelIdeal_ReferenceIdeal (hKernelIdeal := Cert.KernelIdeal.Gen.facts)
    (hReferenceIdeal := Cert.ReferenceIdeal.Gen.facts) := fun m g m' g' _ hin =>
  ⟨Cert.Gather.whole _ _ _ _,
    (θ_run _ _ _).mono (fun _ h c => ⟨(h.1 c).1.2.2.trans (Cert.Gather.outAt_whole m c _ _ _ _ (fun d => (hin d).1) (hin c).2.1
        (hin c).2.2.1 (hin c).2.2.2), (h.1 c).1.1, (h.1 c).1.2.1, (h.1 c).2.1, (h.1 c).2.2⟩) (Cert.Gather.run_main m g),
    (θ_run _ _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
